-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_c_3)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_c_3) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v220) = v0 c
          ∧ r.2.mem ((c.tc : Thread Cert.ReferenceIdeal.nD Cert.ReferenceIdeal.τ).loc Cert.ReferenceIdeal.main_v217) = v1 c
          ∧ r.2.mem ((c.tc : Thread Cert.ReferenceIdeal.nD Cert.ReferenceIdeal.τ).loc Cert.ReferenceIdeal.main_c_84) = v2 c
          ∧ r.2.mem ((c.tc : Thread Cert.ReferenceIdeal.nD Cert.ReferenceIdeal.τ).loc Cert.ReferenceIdeal.main_v218) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x6 : Shape := ⟨2, ![16384, 6]⟩
abbrev S_ : Shape := ⟨0, ![]⟩
abbrev S1x2097152 : Shape := ⟨2, ![1, 2097152]⟩
abbrev S128 : Shape := ⟨1, ![128]⟩
abbrev S98304 : Shape := ⟨1, ![98304]⟩
abbrev S2097152 : Shape := ⟨1, ![2097152]⟩
abbrev S65536 : Shape := ⟨1, ![65536]⟩
abbrev S2048 : Shape := ⟨1, ![2048]⟩
abbrev S16 : Shape := ⟨1, ![16]⟩
abbrev S6291456 : Shape := ⟨1, ![6291456]⟩
abbrev S3072 : Shape := ⟨1, ![3072]⟩
abbrev S6144 : Shape := ⟨1, ![6144]⟩
abbrev S16384x128x3 : Shape := ⟨3, ![16384, 128, 3]⟩
abbrev S16384x128 : Shape := ⟨2, ![16384, 128]⟩

abbrev nBuf : Table → Nat
  | .hbm => 19
  | .local .scVector .vmem => 10
  | _ => 0

abbrev bufTy : (tb : Table) → Fin (nBuf tb) → BufTy
  | .hbm, ⟨0, _⟩ => ⟨S16384x6, .f32⟩
  | .hbm, ⟨1, _⟩ => ⟨S_, .i32⟩
  | .hbm, ⟨2, _⟩ => ⟨S1x2097152, .f32⟩
  | .hbm, ⟨3, _⟩ => ⟨S128, .i32⟩
  | .hbm, ⟨4, _⟩ => ⟨S128, .i32⟩
  | .hbm, ⟨5, _⟩ => ⟨S128, .i32⟩
  | .hbm, ⟨6, _⟩ => ⟨S98304, .f32⟩
  | .hbm, ⟨7, _⟩ => ⟨S2097152, .f32⟩
  | .hbm, ⟨8, _⟩ => ⟨S65536, .i32⟩
  | .hbm, ⟨9, _⟩ => ⟨S6291456, .f32⟩
  | .hbm, ⟨10, _⟩ => ⟨S2097152, .f32⟩
  | .hbm, ⟨11, _⟩ => ⟨S2097152, .i32⟩
  | .hbm, ⟨12, _⟩ => ⟨S16384x128x3, .f32⟩
  | .hbm, ⟨13, _⟩ => ⟨S16384x128, .i32⟩
  | .hbm, ⟨14, _⟩ => ⟨S_, .i32⟩
  | .hbm, ⟨15, _⟩ => ⟨S16384x128, .i32⟩
  | .hbm, ⟨16, _⟩ => ⟨S16384x128, .i1⟩
  | .hbm, ⟨17, _⟩ => ⟨S16384x128, .f32⟩
  | .hbm, ⟨18, _⟩ => ⟨S_, .i32⟩
  | .local .scVector .vmem, ⟨0, _⟩ => ⟨S65536, .f32⟩
  | .local .scVector .vmem, ⟨1, _⟩ => ⟨S2048, .i32⟩
  | .local .scVector .vmem, ⟨2, _⟩ => ⟨S65536, .i32⟩
  | .local .scVector .vmem, ⟨3, _⟩ => ⟨S3072, .f32⟩
  | .local .scVector .vmem, ⟨4, _⟩ => ⟨S128, .i32⟩
  | .local .scVector .vmem, ⟨5, _⟩ => ⟨S128, .i32⟩
  | .local .scVector .vmem, ⟨6, _⟩ => ⟨S128, .i32⟩
  | .local .scVector .vmem, ⟨7, _⟩ => ⟨S6144, .f32⟩
  | .local .scVector .vmem, ⟨8, _⟩ => ⟨S2048, .f32⟩
  | .local .scVector .vmem, ⟨9, _⟩ => ⟨S2048, .i32⟩
  | _, _ => ⟨S16384x6, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_3 : Ref sig .tc := ⟨.hbm, 18, rfl⟩
abbrev main_v1_scv : Ref sig .scVector := ⟨.hbm, 7, rfl⟩
abbrev main_v2_scv : Ref sig .scVector := ⟨.hbm, 8, rfl⟩
abbrev main_v0_scv : Ref sig .scVector := ⟨.hbm, 6, rfl⟩
abbrev main_c_scv : Ref sig .scVector := ⟨.hbm, 3, rfl⟩
abbrev main_c_0_scv : Ref sig .scVector := ⟨.hbm, 4, rfl⟩
abbrev main_c_1_scv : Ref sig .scVector := ⟨.hbm, 5, rfl⟩
abbrev main_v3_0_scv : Ref sig .scVector := ⟨.hbm, 9, rfl⟩
abbrev main_v3_1_scv : Ref sig .scVector := ⟨.hbm, 10, rfl⟩
abbrev main_v3_2_scv : Ref sig .scVector := ⟨.hbm, 11, rfl⟩
abbrev cc0_scratch0 : Ref sig .scVector := ⟨.vmem, 0, rfl⟩
abbrev cc0_scratch1 : Ref sig .scVector := ⟨.vmem, 1, rfl⟩
abbrev cc1_scratch0 : Ref sig .scVector := ⟨.vmem, 2, rfl⟩
abbrev cc1_scratch1 : Ref sig .scVector := ⟨.vmem, 3, rfl⟩
abbrev cc1_scratch2 : Ref sig .scVector := ⟨.vmem, 4, rfl⟩
abbrev cc1_scratch3 : Ref sig .scVector := ⟨.vmem, 5, rfl⟩
abbrev cc1_scratch4 : Ref sig .scVector := ⟨.vmem, 6, rfl⟩
abbrev cc1_scratch5 : Ref sig .scVector := ⟨.vmem, 7, rfl⟩
abbrev cc1_scratch6 : Ref sig .scVector := ⟨.vmem, 8, rfl⟩
abbrev cc1_scratch7 : Ref sig .scVector := ⟨.vmem, 9, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  ![v2.toNat]
@[reducible] def k0_t1_loop : Scf.Loop 32 :=
  let c0_i32_0 : BitVec 32 := 0#32
  let c128_i32 : BitVec 32 := 128#32
  let v4 : BitVec 32 := Scalar.addi c0_i32_0 c128_i32
  let c1_i32 : BitVec 32 := 1#32
  ⟨c0_i32_0, v4, c1_i32⟩

def k0_chk1 (v13 : IVec S16 32) : Prop :=
  (∀ a x, ((![v13] : Fin 1 → IVec S16 32) a x).toNat < S65536.size a)
theorem k0_idx1_inb : ∀ (v13 : IVec S16 32) (k0_hw1 : k0_chk1 v13), ∀ a x, ((![v13] : Fin 1 → IVec S16 32) a x).toNat < S65536.size a := fun v13 k0_hw1 => k0_hw1

def k0_chk2 (v22 : IVec S16 32) : Prop :=
  (∀ a x, ((![v22] : Fin 1 → IVec S16 32) a x).toNat < S65536.size a)
theorem k0_idx2_inb : ∀ (v22 : IVec S16 32) (k0_hw2 : k0_chk2 v22), ∀ a x, ((![v22] : Fin 1 → IVec S16 32) a x).toNat < S65536.size a := fun v22 k0_hw2 => k0_hw2

def k0_chk3 (v31 : IVec S16 32) : Prop :=
  (∀ a x, ((![v31] : Fin 1 → IVec S16 32) a x).toNat < S65536.size a)
theorem k0_idx3_inb : ∀ (v31 : IVec S16 32) (k0_hw3 : k0_chk3 v31), ∀ a x, ((![v31] : Fin 1 → IVec S16 32) a x).toNat < S65536.size a := fun v31 k0_hw3 => k0_hw3

def k0_chk4 (v40 : IVec S16 32) : Prop :=
  (∀ a x, ((![v40] : Fin 1 → IVec S16 32) a x).toNat < S65536.size a)
theorem k0_idx4_inb : ∀ (v40 : IVec S16 32) (k0_hw4 : k0_chk4 v40), ∀ a x, ((![v40] : Fin 1 → IVec S16 32) a x).toNat < S65536.size a := fun v40 k0_hw4 => k0_hw4

def k0_chk5 (v49 : IVec S16 32) : Prop :=
  (∀ a x, ((![v49] : Fin 1 → IVec S16 32) a x).toNat < S65536.size a)
theorem k0_idx5_inb : ∀ (v49 : IVec S16 32) (k0_hw5 : k0_chk5 v49), ∀ a x, ((![v49] : Fin 1 → IVec S16 32) a x).toNat < S65536.size a := fun v49 k0_hw5 => k0_hw5

def k0_chk6 (v58 : IVec S16 32) : Prop :=
  (∀ a x, ((![v58] : Fin 1 → IVec S16 32) a x).toNat < S65536.size a)
theorem k0_idx6_inb : ∀ (v58 : IVec S16 32) (k0_hw6 : k0_chk6 v58), ∀ a x, ((![v58] : Fin 1 → IVec S16 32) a x).toNat < S65536.size a := fun v58 k0_hw6 => k0_hw6

def k0_chk7 (v67 : IVec S16 32) : Prop :=
  (∀ a x, ((![v67] : Fin 1 → IVec S16 32) a x).toNat < S65536.size a)
theorem k0_idx7_inb : ∀ (v67 : IVec S16 32) (k0_hw7 : k0_chk7 v67), ∀ a x, ((![v67] : Fin 1 → IVec S16 32) a x).toNat < S65536.size a := fun v67 k0_hw7 => k0_hw7

def k0_chk8 (v76 : IVec S16 32) : Prop :=
  (∀ a x, ((![v76] : Fin 1 → IVec S16 32) a x).toNat < S65536.size a)
theorem k0_idx8_inb : ∀ (v76 : IVec S16 32) (k0_hw8 : k0_chk8 v76), ∀ a x, ((![v76] : Fin 1 → IVec S16 32) a x).toNat < S65536.size a := fun v76 k0_hw8 => k0_hw8

def k0_chk9 (v85 : IVec S16 32) : Prop :=
  (∀ a x, ((![v85] : Fin 1 → IVec S16 32) a x).toNat < S65536.size a)
theorem k0_idx9_inb : ∀ (v85 : IVec S16 32) (k0_hw9 : k0_chk9 v85), ∀ a x, ((![v85] : Fin 1 → IVec S16 32) a x).toNat < S65536.size a := fun v85 k0_hw9 => k0_hw9

def k0_chk10 (v94 : IVec S16 32) : Prop :=
  (∀ a x, ((![v94] : Fin 1 → IVec S16 32) a x).toNat < S65536.size a)
theorem k0_idx10_inb : ∀ (v94 : IVec S16 32) (k0_hw10 : k0_chk10 v94), ∀ a x, ((![v94] : Fin 1 → IVec S16 32) a x).toNat < S65536.size a := fun v94 k0_hw10 => k0_hw10

def k0_chk11 (v103 : IVec S16 32) : Prop :=
  (∀ a x, ((![v103] : Fin 1 → IVec S16 32) a x).toNat < S65536.size a)
theorem k0_idx11_inb : ∀ (v103 : IVec S16 32) (k0_hw11 : k0_chk11 v103), ∀ a x, ((![v103] : Fin 1 → IVec S16 32) a x).toNat < S65536.size a := fun v103 k0_hw11 => k0_hw11

def k0_chk12 (v112 : IVec S16 32) : Prop :=
  (∀ a x, ((![v112] : Fin 1 → IVec S16 32) a x).toNat < S65536.size a)
theorem k0_idx12_inb : ∀ (v112 : IVec S16 32) (k0_hw12 : k0_chk12 v112), ∀ a x, ((![v112] : Fin 1 → IVec S16 32) a x).toNat < S65536.size a := fun v112 k0_hw12 => k0_hw12

def k0_chk13 (v121 : IVec S16 32) : Prop :=
  (∀ a x, ((![v121] : Fin 1 → IVec S16 32) a x).toNat < S65536.size a)
theorem k0_idx13_inb : ∀ (v121 : IVec S16 32) (k0_hw13 : k0_chk13 v121), ∀ a x, ((![v121] : Fin 1 → IVec S16 32) a x).toNat < S65536.size a := fun v121 k0_hw13 => k0_hw13

def k0_chk14 (v130 : IVec S16 32) : Prop :=
  (∀ a x, ((![v130] : Fin 1 → IVec S16 32) a x).toNat < S65536.size a)
theorem k0_idx14_inb : ∀ (v130 : IVec S16 32) (k0_hw14 : k0_chk14 v130), ∀ a x, ((![v130] : Fin 1 → IVec S16 32) a x).toNat < S65536.size a := fun v130 k0_hw14 => k0_hw14

def k0_chk15 (v139 : IVec S16 32) : Prop :=
  (∀ a x, ((![v139] : Fin 1 → IVec S16 32) a x).toNat < S65536.size a)
theorem k0_idx15_inb : ∀ (v139 : IVec S16 32) (k0_hw15 : k0_chk15 v139), ∀ a x, ((![v139] : Fin 1 → IVec S16 32) a x).toNat < S65536.size a := fun v139 k0_hw15 => k0_hw15

def k0_chk16 (v148 : IVec S16 32) : Prop :=
  (∀ a x, ((![v148] : Fin 1 → IVec S16 32) a x).toNat < S65536.size a)
theorem k0_idx16_inb : ∀ (v148 : IVec S16 32) (k0_hw16 : k0_chk16 v148), ∀ a x, ((![v148] : Fin 1 → IVec S16 32) a x).toNat < S65536.size a := fun v148 k0_hw16 => k0_hw16

def k0_chk17 (v157 : IVec S16 32) : Prop :=
  (∀ a x, ((![v157] : Fin 1 → IVec S16 32) a x).toNat < S65536.size a)
theorem k0_idx17_inb : ∀ (v157 : IVec S16 32) (k0_hw17 : k0_chk17 v157), ∀ a x, ((![v157] : Fin 1 → IVec S16 32) a x).toNat < S65536.size a := fun v157 k0_hw17 => k0_hw17

def k0_chk18 (v166 : IVec S16 32) : Prop :=
  (∀ a x, ((![v166] : Fin 1 → IVec S16 32) a x).toNat < S65536.size a)
theorem k0_idx18_inb : ∀ (v166 : IVec S16 32) (k0_hw18 : k0_chk18 v166), ∀ a x, ((![v166] : Fin 1 → IVec S16 32) a x).toNat < S65536.size a := fun v166 k0_hw18 => k0_hw18

def k0_chk19 (v175 : IVec S16 32) : Prop :=
  (∀ a x, ((![v175] : Fin 1 → IVec S16 32) a x).toNat < S65536.size a)
theorem k0_idx19_inb : ∀ (v175 : IVec S16 32) (k0_hw19 : k0_chk19 v175), ∀ a x, ((![v175] : Fin 1 → IVec S16 32) a x).toNat < S65536.size a := fun v175 k0_hw19 => k0_hw19

def k0_chk20 (v184 : IVec S16 32) : Prop :=
  (∀ a x, ((![v184] : Fin 1 → IVec S16 32) a x).toNat < S65536.size a)
theorem k0_idx20_inb : ∀ (v184 : IVec S16 32) (k0_hw20 : k0_chk20 v184), ∀ a x, ((![v184] : Fin 1 → IVec S16 32) a x).toNat < S65536.size a := fun v184 k0_hw20 => k0_hw20

def k0_chk21 (v193 : IVec S16 32) : Prop :=
  (∀ a x, ((![v193] : Fin 1 → IVec S16 32) a x).toNat < S65536.size a)
theorem k0_idx21_inb : ∀ (v193 : IVec S16 32) (k0_hw21 : k0_chk21 v193), ∀ a x, ((![v193] : Fin 1 → IVec S16 32) a x).toNat < S65536.size a := fun v193 k0_hw21 => k0_hw21

def k0_chk22 (v202 : IVec S16 32) : Prop :=
  (∀ a x, ((![v202] : Fin 1 → IVec S16 32) a x).toNat < S65536.size a)
theorem k0_idx22_inb : ∀ (v202 : IVec S16 32) (k0_hw22 : k0_chk22 v202), ∀ a x, ((![v202] : Fin 1 → IVec S16 32) a x).toNat < S65536.size a := fun v202 k0_hw22 => k0_hw22

def k0_chk23 (v211 : IVec S16 32) : Prop :=
  (∀ a x, ((![v211] : Fin 1 → IVec S16 32) a x).toNat < S65536.size a)
theorem k0_idx23_inb : ∀ (v211 : IVec S16 32) (k0_hw23 : k0_chk23 v211), ∀ a x, ((![v211] : Fin 1 → IVec S16 32) a x).toNat < S65536.size a := fun v211 k0_hw23 => k0_hw23

def k0_chk24 (v220 : IVec S16 32) : Prop :=
  (∀ a x, ((![v220] : Fin 1 → IVec S16 32) a x).toNat < S65536.size a)
theorem k0_idx24_inb : ∀ (v220 : IVec S16 32) (k0_hw24 : k0_chk24 v220), ∀ a x, ((![v220] : Fin 1 → IVec S16 32) a x).toNat < S65536.size a := fun v220 k0_hw24 => k0_hw24

def k0_chk25 (v229 : IVec S16 32) : Prop :=
  (∀ a x, ((![v229] : Fin 1 → IVec S16 32) a x).toNat < S65536.size a)
theorem k0_idx25_inb : ∀ (v229 : IVec S16 32) (k0_hw25 : k0_chk25 v229), ∀ a x, ((![v229] : Fin 1 → IVec S16 32) a x).toNat < S65536.size a := fun v229 k0_hw25 => k0_hw25

def k0_chk26 (v238 : IVec S16 32) : Prop :=
  (∀ a x, ((![v238] : Fin 1 → IVec S16 32) a x).toNat < S65536.size a)
theorem k0_idx26_inb : ∀ (v238 : IVec S16 32) (k0_hw26 : k0_chk26 v238), ∀ a x, ((![v238] : Fin 1 → IVec S16 32) a x).toNat < S65536.size a := fun v238 k0_hw26 => k0_hw26

def k0_chk27 (v247 : IVec S16 32) : Prop :=
  (∀ a x, ((![v247] : Fin 1 → IVec S16 32) a x).toNat < S65536.size a)
theorem k0_idx27_inb : ∀ (v247 : IVec S16 32) (k0_hw27 : k0_chk27 v247), ∀ a x, ((![v247] : Fin 1 → IVec S16 32) a x).toNat < S65536.size a := fun v247 k0_hw27 => k0_hw27

def k0_chk28 (v256 : IVec S16 32) : Prop :=
  (∀ a x, ((![v256] : Fin 1 → IVec S16 32) a x).toNat < S65536.size a)
theorem k0_idx28_inb : ∀ (v256 : IVec S16 32) (k0_hw28 : k0_chk28 v256), ∀ a x, ((![v256] : Fin 1 → IVec S16 32) a x).toNat < S65536.size a := fun v256 k0_hw28 => k0_hw28

def k0_chk29 (v265 : IVec S16 32) : Prop :=
  (∀ a x, ((![v265] : Fin 1 → IVec S16 32) a x).toNat < S65536.size a)
theorem k0_idx29_inb : ∀ (v265 : IVec S16 32) (k0_hw29 : k0_chk29 v265), ∀ a x, ((![v265] : Fin 1 → IVec S16 32) a x).toNat < S65536.size a := fun v265 k0_hw29 => k0_hw29

def k0_chk30 (v274 : IVec S16 32) : Prop :=
  (∀ a x, ((![v274] : Fin 1 → IVec S16 32) a x).toNat < S65536.size a)
theorem k0_idx30_inb : ∀ (v274 : IVec S16 32) (k0_hw30 : k0_chk30 v274), ∀ a x, ((![v274] : Fin 1 → IVec S16 32) a x).toNat < S65536.size a := fun v274 k0_hw30 => k0_hw30

def k0_chk31 (v283 : IVec S16 32) : Prop :=
  (∀ a x, ((![v283] : Fin 1 → IVec S16 32) a x).toNat < S65536.size a)
theorem k0_idx31_inb : ∀ (v283 : IVec S16 32) (k0_hw31 : k0_chk31 v283), ∀ a x, ((![v283] : Fin 1 → IVec S16 32) a x).toNat < S65536.size a := fun v283 k0_hw31 => k0_hw31

def k0_chk32 (v292 : IVec S16 32) : Prop :=
  (∀ a x, ((![v292] : Fin 1 → IVec S16 32) a x).toNat < S65536.size a)
theorem k0_idx32_inb : ∀ (v292 : IVec S16 32) (k0_hw32 : k0_chk32 v292), ∀ a x, ((![v292] : Fin 1 → IVec S16 32) a x).toNat < S65536.size a := fun v292 k0_hw32 => k0_hw32
def k0_off2 (k0_t1 : Fin k0_t1_loop.trips) : Fin 1 → Nat :=
  let c0_i32_0 : BitVec 32 := 0#32
  let c1_i32 : BitVec 32 := 1#32
  let arg6 : BitVec 32 := Scf.iv c0_i32_0 c1_i32 k0_t1
  let c16_i32_69 : BitVec 32 := 16#32
  let v300 : BitVec 32 := Scalar.muli arg6 c16_i32_69
  let v301 : Index := Scalar.indexCast v300
  ![v301.toNat]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v5 : BitVec 32 := Scalar.muli v1 c2048_i32
  ![v5.toNat]
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c6_i32 : BitVec 32 := 6#32
  let v3 : BitVec 32 := Scalar.muli v2 c6_i32
  ![v3.toNat]
@[reducible] def k1_t1_loop : Scf.Loop 32 :=
  let c0_i32_1 : BitVec 32 := 0#32
  let c32_i32 : BitVec 32 := 32#32
  let v11 : BitVec 32 := Scalar.addi c0_i32_1 c32_i32
  let c1_i32 : BitVec 32 := 1#32
  ⟨c0_i32_1, v11, c1_i32⟩

def k1_chk1 (v14 : IVec S16 32) : Prop :=
  (∀ a x, ((![v14] : Fin 1 → IVec S16 32) a x).toNat < S3072.size a)
theorem k1_idx1_inb : ∀ (v14 : IVec S16 32) (k1_hw1 : k1_chk1 v14), ∀ a x, ((![v14] : Fin 1 → IVec S16 32) a x).toNat < S3072.size a := fun v14 k1_hw1 => k1_hw1

def k1_chk2 (v17 : IVec S16 32) : Prop :=
  (∀ a x, ((![v17] : Fin 1 → IVec S16 32) a x).toNat < S3072.size a)
theorem k1_idx2_inb : ∀ (v17 : IVec S16 32) (k1_hw2 : k1_chk2 v17), ∀ a x, ((![v17] : Fin 1 → IVec S16 32) a x).toNat < S3072.size a := fun v17 k1_hw2 => k1_hw2

def k1_chk3 (v20 : IVec S16 32) : Prop :=
  (∀ a x, ((![v20] : Fin 1 → IVec S16 32) a x).toNat < S3072.size a)
theorem k1_idx3_inb : ∀ (v20 : IVec S16 32) (k1_hw3 : k1_chk3 v20), ∀ a x, ((![v20] : Fin 1 → IVec S16 32) a x).toNat < S3072.size a := fun v20 k1_hw3 => k1_hw3

def k1_chk4 (v23 : IVec S16 32) : Prop :=
  (∀ a x, ((![v23] : Fin 1 → IVec S16 32) a x).toNat < S3072.size a)
theorem k1_idx4_inb : ∀ (v23 : IVec S16 32) (k1_hw4 : k1_chk4 v23), ∀ a x, ((![v23] : Fin 1 → IVec S16 32) a x).toNat < S3072.size a := fun v23 k1_hw4 => k1_hw4

def k1_chk5 (v26 : IVec S16 32) : Prop :=
  (∀ a x, ((![v26] : Fin 1 → IVec S16 32) a x).toNat < S3072.size a)
theorem k1_idx5_inb : ∀ (v26 : IVec S16 32) (k1_hw5 : k1_chk5 v26), ∀ a x, ((![v26] : Fin 1 → IVec S16 32) a x).toNat < S3072.size a := fun v26 k1_hw5 => k1_hw5

def k1_chk6 (v29 : IVec S16 32) : Prop :=
  (∀ a x, ((![v29] : Fin 1 → IVec S16 32) a x).toNat < S3072.size a)
theorem k1_idx6_inb : ∀ (v29 : IVec S16 32) (k1_hw6 : k1_chk6 v29), ∀ a x, ((![v29] : Fin 1 → IVec S16 32) a x).toNat < S3072.size a := fun v29 k1_hw6 => k1_hw6
@[reducible] def k1_t2_loop : Scf.Loop 32 :=
  let c0_i32_22 : BitVec 32 := 0#32
  let c128_i32_23 : BitVec 32 := 128#32
  let v87 : BitVec 32 := Scalar.addi c0_i32_22 c128_i32_23
  let c1_i32_24 : BitVec 32 := 1#32
  ⟨c0_i32_22, v87, c1_i32_24⟩

def k1_chk7 (v119 : IVec S16 32) : Prop :=
  (∀ a x, ((![v119] : Fin 1 → IVec S16 32) a x).toNat < S128.size a)
theorem k1_idx7_inb : ∀ (v119 : IVec S16 32) (k1_hw7 : k1_chk7 v119), ∀ a x, ((![v119] : Fin 1 → IVec S16 32) a x).toNat < S128.size a := fun v119 k1_hw7 => k1_hw7

def k1_chk8 (v135 : IVec S16 32) : Prop :=
  (∀ a x, ((![v135] : Fin 1 → IVec S16 32) a x).toNat < S128.size a)
theorem k1_idx8_inb : ∀ (v135 : IVec S16 32) (k1_hw8 : k1_chk8 v135), ∀ a x, ((![v135] : Fin 1 → IVec S16 32) a x).toNat < S128.size a := fun v135 k1_hw8 => k1_hw8

def k1_chk9 (v152 : IVec S16 32) : Prop :=
  (∀ a x, ((![v152] : Fin 1 → IVec S16 32) a x).toNat < S128.size a)
theorem k1_idx9_inb : ∀ (v152 : IVec S16 32) (k1_hw9 : k1_chk9 v152), ∀ a x, ((![v152] : Fin 1 → IVec S16 32) a x).toNat < S128.size a := fun v152 k1_hw9 => k1_hw9

def k1_chk10 (v156 : IVec S16 32) : Prop :=
  (∀ a x, ((![v156] : Fin 1 → IVec S16 32) a x).toNat < S65536.size a)
theorem k1_idx10_inb : ∀ (v156 : IVec S16 32) (k1_hw10 : k1_chk10 v156), ∀ a x, ((![v156] : Fin 1 → IVec S16 32) a x).toNat < S65536.size a := fun v156 k1_hw10 => k1_hw10

def k1_chk11 (v168 : IVec S16 32) : Prop :=
  (∀ a x, ((![v168] : Fin 1 → IVec S16 32) a x).toNat < S6144.size a)
theorem k1_idx11_inb : ∀ (v168 : IVec S16 32) (k1_hw11 : k1_chk11 v168), ∀ a x, ((![v168] : Fin 1 → IVec S16 32) a x).toNat < S6144.size a := fun v168 k1_hw11 => k1_hw11

def k1_chk12 (v172 : IVec S16 32) : Prop :=
  (∀ a x, ((![v172] : Fin 1 → IVec S16 32) a x).toNat < S6144.size a)
theorem k1_idx12_inb : ∀ (v172 : IVec S16 32) (k1_hw12 : k1_chk12 v172), ∀ a x, ((![v172] : Fin 1 → IVec S16 32) a x).toNat < S6144.size a := fun v172 k1_hw12 => k1_hw12

def k1_chk13 (v176 : IVec S16 32) : Prop :=
  (∀ a x, ((![v176] : Fin 1 → IVec S16 32) a x).toNat < S6144.size a)
theorem k1_idx13_inb : ∀ (v176 : IVec S16 32) (k1_hw13 : k1_chk13 v176), ∀ a x, ((![v176] : Fin 1 → IVec S16 32) a x).toNat < S6144.size a := fun v176 k1_hw13 => k1_hw13

def k1_chk14 (v180 : IVec S16 32) : Prop :=
  (∀ a x, ((![v180] : Fin 1 → IVec S16 32) a x).toNat < S2048.size a) ∧
  (∀ a x, ((![v180] : Fin 1 → IVec S16 32) a x).toNat < S2048.size a)
theorem k1_idx14_inb : ∀ (v180 : IVec S16 32) (k1_hw14 : k1_chk14 v180), ∀ a x, ((![v180] : Fin 1 → IVec S16 32) a x).toNat < S2048.size a := fun v180 k1_hw14 => k1_hw14.1
theorem k1_idx15_inb : ∀ (v180 : IVec S16 32) (k1_hw14 : k1_chk14 v180), ∀ a x, ((![v180] : Fin 1 → IVec S16 32) a x).toNat < S2048.size a := fun v180 k1_hw14 => k1_hw14.2
def k1_off2 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_1 : BitVec 32 := 0#32
  let c1_i32 : BitVec 32 := 1#32
  let arg18 : BitVec 32 := Scf.iv c0_i32_1 c1_i32 k1_t1
  let c16_i32 : BitVec 32 := 16#32
  let v88 : BitVec 32 := Scalar.muli arg18 c16_i32
  let v89 : BitVec 32 := Scalar.addi v2 v88
  let c384_i32_26 : BitVec 32 := 384#32
  let v90 : BitVec 32 := Scalar.muli v89 c384_i32_26
  ![v90.toNat]
def k1_off3 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_1 : BitVec 32 := 0#32
  let c1_i32 : BitVec 32 := 1#32
  let arg18 : BitVec 32 := Scf.iv c0_i32_1 c1_i32 k1_t1
  let c16_i32 : BitVec 32 := 16#32
  let v88 : BitVec 32 := Scalar.muli arg18 c16_i32
  let v89 : BitVec 32 := Scalar.addi v2 v88
  let c128_i32_27 : BitVec 32 := 128#32
  let v91 : BitVec 32 := Scalar.muli v89 c128_i32_27
  ![v91.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S16384x6 : Shape := ⟨2, ![16384, 6]⟩
abbrev S_ : Shape := ⟨0, ![]⟩
abbrev S1x2097152 : Shape := ⟨2, ![1, 2097152]⟩
abbrev S16384x3 : Shape := ⟨2, ![16384, 3]⟩
abbrev S16384 : Shape := ⟨1, ![16384]⟩
abbrev S128 : Shape := ⟨1, ![128]⟩
abbrev S16384x1 : Shape := ⟨2, ![16384, 1]⟩
abbrev S1x128 : Shape := ⟨2, ![1, 128]⟩
abbrev S16384x128 : Shape := ⟨2, ![16384, 128]⟩
abbrev S16384x1x3 : Shape := ⟨3, ![16384, 1, 3]⟩
abbrev S16384x128x1 : Shape := ⟨3, ![16384, 128, 1]⟩
abbrev S16384x128x3 : Shape := ⟨3, ![16384, 128, 3]⟩
abbrev S2097152 : Shape := ⟨1, ![2097152]⟩
abbrev S2097152x1 : Shape := ⟨2, ![2097152, 1]⟩
abbrev S1 : Shape := ⟨1, ![1]⟩
abbrev S1x1 : Shape := ⟨2, ![1, 1]⟩

abbrev nBuf : Space → Nat
  | .hbm => 349
  | .vmem => 0
  | .smem => 0
  | _ => 0

abbrev hbmTy0_0 (i : Nat) : BufTy := match i % 128 with
  | 0 => ⟨S16384x6, .f32⟩
  | 1 => ⟨S_, .i32⟩
  | 2 => ⟨S1x2097152, .f32⟩
  | 3 => ⟨S16384x3, .f32⟩
  | 4 => ⟨S16384x3, .f32⟩
  | 5 => ⟨S16384x3, .f32⟩
  | 6 => ⟨S_, .f32⟩
  | 7 => ⟨S16384x3, .f32⟩
  | 8 => ⟨S16384x3, .i1⟩
  | 9 => ⟨S_, .f32⟩
  | 10 => ⟨S_, .f32⟩
  | 11 => ⟨S16384x3, .f32⟩
  | 12 => ⟨S16384x3, .f32⟩
  | 13 => ⟨S_, .f32⟩
  | 14 => ⟨S16384x3, .f32⟩
  | 15 => ⟨S16384x3, .f32⟩
  | 16 => ⟨S_, .f32⟩
  | 17 => ⟨S16384x3, .f32⟩
  | 18 => ⟨S16384x3, .f32⟩
  | 19 => ⟨S16384x3, .f32⟩
  | 20 => ⟨S_, .f32⟩
  | 21 => ⟨S16384x3, .f32⟩
  | 22 => ⟨S16384x3, .f32⟩
  | 23 => ⟨S16384x3, .f32⟩
  | 24 => ⟨S16384x3, .f32⟩
  | 25 => ⟨S_, .f32⟩
  | 26 => ⟨S16384, .f32⟩
  | 27 => ⟨S16384x3, .f32⟩
  | 28 => ⟨S_, .f32⟩
  | 29 => ⟨S16384, .f32⟩
  | 30 => ⟨S_, .f32⟩
  | 31 => ⟨S16384, .f32⟩
  | 32 => ⟨S16384, .f32⟩
  | 33 => ⟨S_, .f32⟩
  | 34 => ⟨S16384, .f32⟩
  | 35 => ⟨S16384, .f32⟩
  | 36 => ⟨S16384, .i1⟩
  | 37 => ⟨S16384, .f32⟩
  | 38 => ⟨S16384, .f32⟩
  | 39 => ⟨S128, .f32⟩
  | 40 => ⟨S16384x1, .f32⟩
  | 41 => ⟨S1x128, .f32⟩
  | 42 => ⟨S_, .f32⟩
  | 43 => ⟨S1x128, .f32⟩
  | 44 => ⟨S1x128, .f32⟩
  | 45 => ⟨S_, .f32⟩
  | 46 => ⟨S1x128, .f32⟩
  | 47 => ⟨S1x128, .f32⟩
  | 48 => ⟨S16384x128, .f32⟩
  | 49 => ⟨S16384x128, .f32⟩
  | 50 => ⟨S16384x128, .f32⟩
  | 51 => ⟨S16384x1, .f32⟩
  | 52 => ⟨S16384x128, .f32⟩
  | 53 => ⟨S16384x128, .i1⟩
  | 54 => ⟨S16384x1x3, .f32⟩
  | 55 => ⟨S16384x128x1, .f32⟩
  | 56 => ⟨S16384x1x3, .f32⟩
  | 57 => ⟨S16384x128x3, .f32⟩
  | 58 => ⟨S16384x128x3, .f32⟩
  | 59 => ⟨S16384x128x3, .f32⟩
  | 60 => ⟨S16384x128x3, .f32⟩
  | 61 => ⟨S16384x128x3, .f32⟩
  | 62 => ⟨S_, .f32⟩
  | 63 => ⟨S_, .f32⟩
  | 64 => ⟨S_, .f32⟩
  | 65 => ⟨S16384x128x3, .f32⟩
  | 66 => ⟨S16384x128x3, .f32⟩
  | 67 => ⟨S_, .f32⟩
  | 68 => ⟨S16384x128x3, .f32⟩
  | 69 => ⟨S16384x128x3, .f32⟩
  | 70 => ⟨S_, .f32⟩
  | 71 => ⟨S16384x128x3, .f32⟩
  | 72 => ⟨S16384x128x3, .f32⟩
  | 73 => ⟨S_, .f32⟩
  | 74 => ⟨S16384x128x3, .f32⟩
  | 75 => ⟨S16384x128x3, .f32⟩
  | 76 => ⟨S_, .f32⟩
  | 77 => ⟨S16384x128x3, .f32⟩
  | 78 => ⟨S16384x128x3, .f32⟩
  | 79 => ⟨S_, .f32⟩
  | 80 => ⟨S16384x128x3, .f32⟩
  | 81 => ⟨S16384x128x3, .f32⟩
  | 82 => ⟨S16384x128x3, .i32⟩
  | 83 => ⟨S_, .i32⟩
  | 84 => ⟨S_, .i32⟩
  | 85 => ⟨S_, .i32⟩
  | 86 => ⟨S16384x128x3, .i32⟩
  | 87 => ⟨S16384x128x3, .i32⟩
  | 88 => ⟨S_, .i32⟩
  | 89 => ⟨S16384x128x3, .i32⟩
  | 90 => ⟨S16384x128x3, .i32⟩
  | 91 => ⟨S16384x128x1, .i32⟩
  | 92 => ⟨S16384x128, .i32⟩
  | 93 => ⟨S16384x128x1, .i32⟩
  | 94 => ⟨S16384x128, .i32⟩
  | 95 => ⟨S16384x128x1, .i32⟩
  | 96 => ⟨S16384x128, .i32⟩
  | 97 => ⟨S_, .i32⟩
  | 98 => ⟨S16384x128, .i32⟩
  | 99 => ⟨S_, .i32⟩
  | 100 => ⟨S16384x128, .i32⟩
  | 101 => ⟨S16384x128, .i32⟩
  | 102 => ⟨S_, .i32⟩
  | 103 => ⟨S16384x128, .i32⟩
  | 104 => ⟨S16384x128, .i32⟩
  | 105 => ⟨S_, .i32⟩
  | 106 => ⟨S16384x128, .i32⟩
  | 107 => ⟨S16384x128, .i32⟩
  | 108 => ⟨S16384x128, .i32⟩
  | 109 => ⟨S_, .i32⟩
  | 110 => ⟨S16384x128, .i32⟩
  | 111 => ⟨S16384x128, .i32⟩
  | 112 => ⟨S_, .i32⟩
  | 113 => ⟨S16384x128, .i32⟩
  | 114 => ⟨S16384x128, .i32⟩
  | 115 => ⟨S_, .i32⟩
  | 116 => ⟨S16384x128, .i32⟩
  | 117 => ⟨S16384x128, .i32⟩
  | 118 => ⟨S16384x128, .i32⟩
  | 119 => ⟨S_, .i32⟩
  | 120 => ⟨S16384x128, .i32⟩
  | 121 => ⟨S16384x128, .i32⟩
  | 122 => ⟨S_, .i32⟩
  | 123 => ⟨S16384x128, .i32⟩
  | 124 => ⟨S16384x128, .i32⟩
  | 125 => ⟨S_, .i32⟩
  | 126 => ⟨S16384x128, .i32⟩
  | 127 => ⟨S16384x128, .i32⟩
  | _ => ⟨S16384x6, .f32⟩

abbrev hbmTy0_1 (i : Nat) : BufTy := match i % 128 with
  | 0 => ⟨S16384x128, .i32⟩
  | 1 => ⟨S_, .i32⟩
  | 2 => ⟨S16384x128, .i32⟩
  | 3 => ⟨S16384x128, .i32⟩
  | 4 => ⟨S_, .i32⟩
  | 5 => ⟨S16384x128, .i32⟩
  | 6 => ⟨S16384x128, .i32⟩
  | 7 => ⟨S_, .i32⟩
  | 8 => ⟨S16384x128, .i32⟩
  | 9 => ⟨S16384x128, .i32⟩
  | 10 => ⟨S16384x128, .i32⟩
  | 11 => ⟨S_, .i32⟩
  | 12 => ⟨S16384x128, .i32⟩
  | 13 => ⟨S16384x128, .i32⟩
  | 14 => ⟨S_, .i32⟩
  | 15 => ⟨S16384x128, .i32⟩
  | 16 => ⟨S16384x128, .i32⟩
  | 17 => ⟨S_, .i32⟩
  | 18 => ⟨S16384x128, .i32⟩
  | 19 => ⟨S16384x128, .i32⟩
  | 20 => ⟨S16384x128, .i32⟩
  | 21 => ⟨S_, .i32⟩
  | 22 => ⟨S16384x128, .i32⟩
  | 23 => ⟨S16384x128, .i32⟩
  | 24 => ⟨S_, .i32⟩
  | 25 => ⟨S16384x128, .i32⟩
  | 26 => ⟨S16384x128, .i32⟩
  | 27 => ⟨S_, .i32⟩
  | 28 => ⟨S16384x128, .i32⟩
  | 29 => ⟨S16384x128, .i32⟩
  | 30 => ⟨S16384x128, .i32⟩
  | 31 => ⟨S_, .i32⟩
  | 32 => ⟨S16384x128, .i32⟩
  | 33 => ⟨S16384x128, .i32⟩
  | 34 => ⟨S_, .i32⟩
  | 35 => ⟨S16384x128, .i32⟩
  | 36 => ⟨S16384x128, .i32⟩
  | 37 => ⟨S_, .i32⟩
  | 38 => ⟨S16384x128, .i32⟩
  | 39 => ⟨S16384x128, .i32⟩
  | 40 => ⟨S16384x128, .i32⟩
  | 41 => ⟨S_, .i32⟩
  | 42 => ⟨S16384x128, .i32⟩
  | 43 => ⟨S16384x128, .i32⟩
  | 44 => ⟨S_, .i32⟩
  | 45 => ⟨S16384x128, .i32⟩
  | 46 => ⟨S16384x128, .i32⟩
  | 47 => ⟨S_, .i32⟩
  | 48 => ⟨S16384x128, .i32⟩
  | 49 => ⟨S16384x128, .i32⟩
  | 50 => ⟨S16384x128, .i32⟩
  | 51 => ⟨S_, .i32⟩
  | 52 => ⟨S16384x128, .i32⟩
  | 53 => ⟨S16384x128, .i32⟩
  | 54 => ⟨S_, .i32⟩
  | 55 => ⟨S16384x128, .i32⟩
  | 56 => ⟨S16384x128, .i32⟩
  | 57 => ⟨S_, .i32⟩
  | 58 => ⟨S16384x128, .i32⟩
  | 59 => ⟨S16384x128, .i32⟩
  | 60 => ⟨S16384x128, .i32⟩
  | 61 => ⟨S_, .i32⟩
  | 62 => ⟨S16384x128, .i32⟩
  | 63 => ⟨S16384x128, .i32⟩
  | 64 => ⟨S_, .i32⟩
  | 65 => ⟨S16384x128, .i32⟩
  | 66 => ⟨S16384x128, .i32⟩
  | 67 => ⟨S_, .i32⟩
  | 68 => ⟨S16384x128, .i32⟩
  | 69 => ⟨S16384x128, .i32⟩
  | 70 => ⟨S16384x128, .i32⟩
  | 71 => ⟨S_, .i32⟩
  | 72 => ⟨S16384x128, .i32⟩
  | 73 => ⟨S16384x128, .i32⟩
  | 74 => ⟨S_, .i32⟩
  | 75 => ⟨S16384x128, .i32⟩
  | 76 => ⟨S16384x128, .i32⟩
  | 77 => ⟨S_, .i32⟩
  | 78 => ⟨S16384x128, .i32⟩
  | 79 => ⟨S16384x128, .i32⟩
  | 80 => ⟨S16384x128, .i32⟩
  | 81 => ⟨S_, .i32⟩
  | 82 => ⟨S16384x128, .i32⟩
  | 83 => ⟨S16384x128, .i32⟩
  | 84 => ⟨S_, .i32⟩
  | 85 => ⟨S16384x128, .i32⟩
  | 86 => ⟨S16384x128, .i32⟩
  | 87 => ⟨S_, .i32⟩
  | 88 => ⟨S16384x128, .i32⟩
  | 89 => ⟨S16384x128, .i32⟩
  | 90 => ⟨S16384x128, .i32⟩
  | 91 => ⟨S_, .i32⟩
  | 92 => ⟨S16384x128, .i32⟩
  | 93 => ⟨S16384x128, .i32⟩
  | 94 => ⟨S_, .i32⟩
  | 95 => ⟨S16384x128, .i32⟩
  | 96 => ⟨S16384x128, .i32⟩
  | 97 => ⟨S_, .i32⟩
  | 98 => ⟨S16384x128, .i32⟩
  | 99 => ⟨S16384x128, .i32⟩
  | 100 => ⟨S16384x128, .i32⟩
  | 101 => ⟨S_, .i32⟩
  | 102 => ⟨S16384x128, .i32⟩
  | 103 => ⟨S16384x128, .i32⟩
  | 104 => ⟨S_, .i32⟩
  | 105 => ⟨S16384x128, .i32⟩
  | 106 => ⟨S16384x128, .i32⟩
  | 107 => ⟨S_, .i32⟩
  | 108 => ⟨S16384x128, .i32⟩
  | 109 => ⟨S16384x128, .i32⟩
  | 110 => ⟨S16384x128, .i32⟩
  | 111 => ⟨S_, .i32⟩
  | 112 => ⟨S16384x128, .i32⟩
  | 113 => ⟨S16384x128, .i32⟩
  | 114 => ⟨S_, .i32⟩
  | 115 => ⟨S16384x128, .i32⟩
  | 116 => ⟨S16384x128, .i32⟩
  | 117 => ⟨S_, .i32⟩
  | 118 => ⟨S16384x128, .i32⟩
  | 119 => ⟨S16384x128, .i32⟩
  | 120 => ⟨S16384x128, .i32⟩
  | 121 => ⟨S_, .i32⟩
  | 122 => ⟨S16384x128, .i32⟩
  | 123 => ⟨S16384x128, .i32⟩
  | 124 => ⟨S_, .i32⟩
  | 125 => ⟨S16384x128, .i32⟩
  | 126 => ⟨S16384x128, .i32⟩
  | 127 => ⟨S_, .i32⟩
  | _ => ⟨S16384x6, .f32⟩

abbrev hbmTy0_2 (i : Nat) : BufTy := match i % 128 with
  | 0 => ⟨S16384x128, .i32⟩
  | 1 => ⟨S16384x128, .i32⟩
  | 2 => ⟨S16384x128, .i32⟩
  | 3 => ⟨S_, .i32⟩
  | 4 => ⟨S16384x128, .i32⟩
  | 5 => ⟨S16384x128, .i32⟩
  | 6 => ⟨S_, .i32⟩
  | 7 => ⟨S16384x128, .i32⟩
  | 8 => ⟨S16384x128, .i32⟩
  | 9 => ⟨S_, .i32⟩
  | 10 => ⟨S16384x128, .i32⟩
  | 11 => ⟨S16384x128, .i32⟩
  | 12 => ⟨S16384x128, .i32⟩
  | 13 => ⟨S_, .i32⟩
  | 14 => ⟨S16384x128, .i32⟩
  | 15 => ⟨S16384x128, .i32⟩
  | 16 => ⟨S_, .i32⟩
  | 17 => ⟨S16384x128, .i32⟩
  | 18 => ⟨S16384x128, .i32⟩
  | 19 => ⟨S_, .i32⟩
  | 20 => ⟨S16384x128, .i32⟩
  | 21 => ⟨S16384x128, .i32⟩
  | 22 => ⟨S16384x128, .i32⟩
  | 23 => ⟨S_, .i32⟩
  | 24 => ⟨S16384x128, .i32⟩
  | 25 => ⟨S16384x128, .i32⟩
  | 26 => ⟨S_, .i32⟩
  | 27 => ⟨S16384x128, .i32⟩
  | 28 => ⟨S16384x128, .i32⟩
  | 29 => ⟨S_, .i32⟩
  | 30 => ⟨S16384x128, .i32⟩
  | 31 => ⟨S16384x128, .i32⟩
  | 32 => ⟨S16384x128, .i32⟩
  | 33 => ⟨S_, .i32⟩
  | 34 => ⟨S16384x128, .i32⟩
  | 35 => ⟨S16384x128, .i32⟩
  | 36 => ⟨S_, .i32⟩
  | 37 => ⟨S16384x128, .i32⟩
  | 38 => ⟨S16384x128, .i32⟩
  | 39 => ⟨S_, .i32⟩
  | 40 => ⟨S16384x128, .i32⟩
  | 41 => ⟨S16384x128, .i32⟩
  | 42 => ⟨S16384x128, .i32⟩
  | 43 => ⟨S_, .i32⟩
  | 44 => ⟨S16384x128, .i32⟩
  | 45 => ⟨S16384x128, .i32⟩
  | 46 => ⟨S_, .i32⟩
  | 47 => ⟨S16384x128, .i32⟩
  | 48 => ⟨S16384x128, .i32⟩
  | 49 => ⟨S_, .i32⟩
  | 50 => ⟨S16384x128, .i32⟩
  | 51 => ⟨S16384x128, .i32⟩
  | 52 => ⟨S16384x128, .i32⟩
  | 53 => ⟨S2097152, .f32⟩
  | 54 => ⟨S2097152, .i32⟩
  | 55 => ⟨S_, .i32⟩
  | 56 => ⟨S2097152, .i32⟩
  | 57 => ⟨S2097152, .i1⟩
  | 58 => ⟨S_, .i32⟩
  | 59 => ⟨S2097152, .i32⟩
  | 60 => ⟨S2097152, .i32⟩
  | 61 => ⟨S2097152, .i32⟩
  | 62 => ⟨S2097152x1, .i32⟩
  | 63 => ⟨S1, .i32⟩
  | 64 => ⟨S_, .i32⟩
  | 65 => ⟨S2097152x1, .i32⟩
  | 66 => ⟨S2097152x1, .i1⟩
  | 67 => ⟨S1x1, .i32⟩
  | 68 => ⟨S2097152x1, .i32⟩
  | 69 => ⟨S2097152x1, .i1⟩
  | 70 => ⟨S2097152x1, .i1⟩
  | 71 => ⟨S_, .i1⟩
  | 72 => ⟨S2097152, .i1⟩
  | 73 => ⟨S2097152, .f32⟩
  | 74 => ⟨S_, .f32⟩
  | 75 => ⟨S2097152, .f32⟩
  | 76 => ⟨S2097152, .f32⟩
  | 77 => ⟨S16384x128, .f32⟩
  | 78 => ⟨S_, .f32⟩
  | 79 => ⟨S16384x128, .f32⟩
  | 80 => ⟨S16384x128, .i1⟩
  | 81 => ⟨S16384x128, .i1⟩
  | 82 => ⟨S_, .f32⟩
  | 83 => ⟨S_, .f32⟩
  | 84 => ⟨S16384x128, .f32⟩
  | 85 => ⟨S16384x128, .f32⟩
  | 86 => ⟨S16384x128x1, .i1⟩
  | 87 => ⟨S_, .f32⟩
  | 88 => ⟨S_, .f32⟩
  | 89 => ⟨S16384x128x3, .i1⟩
  | 90 => ⟨S16384x128x3, .f32⟩
  | 91 => ⟨S16384x128x3, .f32⟩
  | 92 => ⟨S_, .i32⟩
  | _ => ⟨S16384x6, .f32⟩

abbrev hbmTy (i : Nat) : BufTy := match i / 128 with
  | 0 => hbmTy0_0 i
  | 1 => hbmTy0_1 i
  | 2 => hbmTy0_2 i
  | _ => ⟨S16384x6, .f32⟩

abbrev bufTy : (tb : Table) → Fin (tcTables nBuf tb) → BufTy
  | .hbm, ⟨i, _⟩ => hbmTy i
  | _, _ => ⟨S16384x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_cst_11 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_v46 : Ref sig .tc := ⟨.hbm, 69, rfl⟩
abbrev main_cst_12 : Ref sig .tc := ⟨.hbm, 70, rfl⟩
abbrev main_v47 : Ref sig .tc := ⟨.hbm, 71, rfl⟩
abbrev main_v48 : Ref sig .tc := ⟨.hbm, 72, rfl⟩
abbrev main_cst_13 : Ref sig .tc := ⟨.hbm, 73, rfl⟩
abbrev main_v49 : Ref sig .tc := ⟨.hbm, 74, rfl⟩
abbrev main_v50 : Ref sig .tc := ⟨.hbm, 75, rfl⟩
abbrev main_cst_14 : Ref sig .tc := ⟨.hbm, 76, rfl⟩
abbrev main_v51 : Ref sig .tc := ⟨.hbm, 77, rfl⟩
abbrev main_v52 : Ref sig .tc := ⟨.hbm, 78, rfl⟩
abbrev main_cst_15 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c : Ref sig .tc := ⟨.hbm, 83, rfl⟩
abbrev main_c_16 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_c_17 : Ref sig .tc := ⟨.hbm, 97, rfl⟩
abbrev main_v63 : Ref sig .tc := ⟨.hbm, 98, rfl⟩
abbrev main_c_18 : Ref sig .tc := ⟨.hbm, 99, rfl⟩
abbrev main_v64 : Ref sig .tc := ⟨.hbm, 100, rfl⟩
abbrev main_v65 : Ref sig .tc := ⟨.hbm, 101, rfl⟩
abbrev main_c_19 : Ref sig .tc := ⟨.hbm, 102, rfl⟩
abbrev main_v66 : Ref sig .tc := ⟨.hbm, 103, rfl⟩
abbrev main_v67 : Ref sig .tc := ⟨.hbm, 104, rfl⟩
abbrev main_c_20 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_c_21 : Ref sig .tc := ⟨.hbm, 109, rfl⟩
abbrev main_v71 : Ref sig .tc := ⟨.hbm, 110, rfl⟩
abbrev main_v72 : Ref sig .tc := ⟨.hbm, 111, rfl⟩
abbrev main_c_22 : Ref sig .tc := ⟨.hbm, 112, rfl⟩
abbrev main_v73 : Ref sig .tc := ⟨.hbm, 113, rfl⟩
abbrev main_v74 : Ref sig .tc := ⟨.hbm, 114, rfl⟩
abbrev main_c_23 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_c_24 : Ref sig .tc := ⟨.hbm, 119, rfl⟩
abbrev main_v78 : Ref sig .tc := ⟨.hbm, 120, rfl⟩
abbrev main_v79 : Ref sig .tc := ⟨.hbm, 121, rfl⟩
abbrev main_c_25 : Ref sig .tc := ⟨.hbm, 122, rfl⟩
abbrev main_v80 : Ref sig .tc := ⟨.hbm, 123, rfl⟩
abbrev main_v81 : Ref sig .tc := ⟨.hbm, 124, rfl⟩
abbrev main_c_26 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_c_27 : Ref sig .tc := ⟨.hbm, 129, rfl⟩
abbrev main_v85 : Ref sig .tc := ⟨.hbm, 130, rfl⟩
abbrev main_v86 : Ref sig .tc := ⟨.hbm, 131, rfl⟩
abbrev main_c_28 : Ref sig .tc := ⟨.hbm, 132, rfl⟩
abbrev main_v87 : Ref sig .tc := ⟨.hbm, 133, rfl⟩
abbrev main_v88 : Ref sig .tc := ⟨.hbm, 134, rfl⟩
abbrev main_c_29 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_c_30 : Ref sig .tc := ⟨.hbm, 139, rfl⟩
abbrev main_v92 : Ref sig .tc := ⟨.hbm, 140, rfl⟩
abbrev main_v93 : Ref sig .tc := ⟨.hbm, 141, rfl⟩
abbrev main_c_31 : Ref sig .tc := ⟨.hbm, 142, rfl⟩
abbrev main_v94 : Ref sig .tc := ⟨.hbm, 143, rfl⟩
abbrev main_v95 : Ref sig .tc := ⟨.hbm, 144, rfl⟩
abbrev main_c_32 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_c_33 : Ref sig .tc := ⟨.hbm, 149, rfl⟩
abbrev main_v99 : Ref sig .tc := ⟨.hbm, 150, rfl⟩
abbrev main_v100 : Ref sig .tc := ⟨.hbm, 151, rfl⟩
abbrev main_c_34 : Ref sig .tc := ⟨.hbm, 152, rfl⟩
abbrev main_v101 : Ref sig .tc := ⟨.hbm, 153, rfl⟩
abbrev main_v102 : Ref sig .tc := ⟨.hbm, 154, rfl⟩
abbrev main_c_35 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_c_36 : Ref sig .tc := ⟨.hbm, 159, rfl⟩
abbrev main_v106 : Ref sig .tc := ⟨.hbm, 160, rfl⟩
abbrev main_v107 : Ref sig .tc := ⟨.hbm, 161, rfl⟩
abbrev main_c_37 : Ref sig .tc := ⟨.hbm, 162, rfl⟩
abbrev main_v108 : Ref sig .tc := ⟨.hbm, 163, rfl⟩
abbrev main_v109 : Ref sig .tc := ⟨.hbm, 164, rfl⟩
abbrev main_c_38 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_c_39 : Ref sig .tc := ⟨.hbm, 169, rfl⟩
abbrev main_v113 : Ref sig .tc := ⟨.hbm, 170, rfl⟩
abbrev main_v114 : Ref sig .tc := ⟨.hbm, 171, rfl⟩
abbrev main_c_40 : Ref sig .tc := ⟨.hbm, 172, rfl⟩
abbrev main_v115 : Ref sig .tc := ⟨.hbm, 173, rfl⟩
abbrev main_v116 : Ref sig .tc := ⟨.hbm, 174, rfl⟩
abbrev main_c_41 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_c_42 : Ref sig .tc := ⟨.hbm, 179, rfl⟩
abbrev main_v120 : Ref sig .tc := ⟨.hbm, 180, rfl⟩
abbrev main_v121 : Ref sig .tc := ⟨.hbm, 181, rfl⟩
abbrev main_c_43 : Ref sig .tc := ⟨.hbm, 182, rfl⟩
abbrev main_v122 : Ref sig .tc := ⟨.hbm, 183, rfl⟩
abbrev main_v123 : Ref sig .tc := ⟨.hbm, 184, rfl⟩
abbrev main_c_44 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_c_45 : Ref sig .tc := ⟨.hbm, 189, rfl⟩
abbrev main_v127 : Ref sig .tc := ⟨.hbm, 190, rfl⟩
abbrev main_v128 : Ref sig .tc := ⟨.hbm, 191, rfl⟩
abbrev main_c_46 : Ref sig .tc := ⟨.hbm, 192, rfl⟩
abbrev main_v129 : Ref sig .tc := ⟨.hbm, 193, rfl⟩
abbrev main_v130 : Ref sig .tc := ⟨.hbm, 194, rfl⟩
abbrev main_c_47 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_c_48 : Ref sig .tc := ⟨.hbm, 199, rfl⟩
abbrev main_v134 : Ref sig .tc := ⟨.hbm, 200, rfl⟩
abbrev main_v135 : Ref sig .tc := ⟨.hbm, 201, rfl⟩
abbrev main_c_49 : Ref sig .tc := ⟨.hbm, 202, rfl⟩
abbrev main_v136 : Ref sig .tc := ⟨.hbm, 203, rfl⟩
abbrev main_v137 : Ref sig .tc := ⟨.hbm, 204, rfl⟩
abbrev main_c_50 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_c_51 : Ref sig .tc := ⟨.hbm, 209, rfl⟩
abbrev main_v141 : Ref sig .tc := ⟨.hbm, 210, rfl⟩
abbrev main_v142 : Ref sig .tc := ⟨.hbm, 211, rfl⟩
abbrev main_c_52 : Ref sig .tc := ⟨.hbm, 212, rfl⟩
abbrev main_v143 : Ref sig .tc := ⟨.hbm, 213, rfl⟩
abbrev main_v144 : Ref sig .tc := ⟨.hbm, 214, rfl⟩
abbrev main_c_53 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_c_54 : Ref sig .tc := ⟨.hbm, 219, rfl⟩
abbrev main_v148 : Ref sig .tc := ⟨.hbm, 220, rfl⟩
abbrev main_v149 : Ref sig .tc := ⟨.hbm, 221, rfl⟩
abbrev main_c_55 : Ref sig .tc := ⟨.hbm, 222, rfl⟩
abbrev main_v150 : Ref sig .tc := ⟨.hbm, 223, rfl⟩
abbrev main_v151 : Ref sig .tc := ⟨.hbm, 224, rfl⟩
abbrev main_c_56 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_c_57 : Ref sig .tc := ⟨.hbm, 229, rfl⟩
abbrev main_v155 : Ref sig .tc := ⟨.hbm, 230, rfl⟩
abbrev main_v156 : Ref sig .tc := ⟨.hbm, 231, rfl⟩
abbrev main_c_58 : Ref sig .tc := ⟨.hbm, 232, rfl⟩
abbrev main_v157 : Ref sig .tc := ⟨.hbm, 233, rfl⟩
abbrev main_v158 : Ref sig .tc := ⟨.hbm, 234, rfl⟩
abbrev main_c_59 : Ref sig .tc := ⟨.hbm, 235, rfl⟩
abbrev main_v159 : Ref sig .tc := ⟨.hbm, 236, rfl⟩
abbrev main_v160 : Ref sig .tc := ⟨.hbm, 237, rfl⟩
abbrev main_v161 : Ref sig .tc := ⟨.hbm, 238, rfl⟩
abbrev main_c_60 : Ref sig .tc := ⟨.hbm, 239, rfl⟩
abbrev main_v162 : Ref sig .tc := ⟨.hbm, 240, rfl⟩
abbrev main_v163 : Ref sig .tc := ⟨.hbm, 241, rfl⟩
abbrev main_c_61 : Ref sig .tc := ⟨.hbm, 242, rfl⟩
abbrev main_v164 : Ref sig .tc := ⟨.hbm, 243, rfl⟩
abbrev main_v165 : Ref sig .tc := ⟨.hbm, 244, rfl⟩
abbrev main_c_62 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_c_63 : Ref sig .tc := ⟨.hbm, 249, rfl⟩
abbrev main_v169 : Ref sig .tc := ⟨.hbm, 250, rfl⟩
abbrev main_v170 : Ref sig .tc := ⟨.hbm, 251, rfl⟩
abbrev main_c_64 : Ref sig .tc := ⟨.hbm, 252, rfl⟩
abbrev main_v171 : Ref sig .tc := ⟨.hbm, 253, rfl⟩
abbrev main_v172 : Ref sig .tc := ⟨.hbm, 254, rfl⟩
abbrev main_c_65 : Ref sig .tc := ⟨.hbm, 255, rfl⟩
abbrev main_v173 : Ref sig .tc := ⟨.hbm, 256, rfl⟩
abbrev main_v174 : Ref sig .tc := ⟨.hbm, 257, rfl⟩
abbrev main_v175 : Ref sig .tc := ⟨.hbm, 258, rfl⟩
abbrev main_c_66 : Ref sig .tc := ⟨.hbm, 259, rfl⟩
abbrev main_v176 : Ref sig .tc := ⟨.hbm, 260, rfl⟩
abbrev main_v177 : Ref sig .tc := ⟨.hbm, 261, rfl⟩
abbrev main_c_67 : Ref sig .tc := ⟨.hbm, 262, rfl⟩
abbrev main_v178 : Ref sig .tc := ⟨.hbm, 263, rfl⟩
abbrev main_v179 : Ref sig .tc := ⟨.hbm, 264, rfl⟩
abbrev main_c_68 : Ref sig .tc := ⟨.hbm, 265, rfl⟩
abbrev main_v180 : Ref sig .tc := ⟨.hbm, 266, rfl⟩
abbrev main_v181 : Ref sig .tc := ⟨.hbm, 267, rfl⟩
abbrev main_v182 : Ref sig .tc := ⟨.hbm, 268, rfl⟩
abbrev main_c_69 : Ref sig .tc := ⟨.hbm, 269, rfl⟩
abbrev main_v183 : Ref sig .tc := ⟨.hbm, 270, rfl⟩
abbrev main_v184 : Ref sig .tc := ⟨.hbm, 271, rfl⟩
abbrev main_c_70 : Ref sig .tc := ⟨.hbm, 272, rfl⟩
abbrev main_v185 : Ref sig .tc := ⟨.hbm, 273, rfl⟩
abbrev main_v186 : Ref sig .tc := ⟨.hbm, 274, rfl⟩
abbrev main_c_71 : Ref sig .tc := ⟨.hbm, 275, rfl⟩
abbrev main_v187 : Ref sig .tc := ⟨.hbm, 276, rfl⟩
abbrev main_v188 : Ref sig .tc := ⟨.hbm, 277, rfl⟩
abbrev main_v189 : Ref sig .tc := ⟨.hbm, 278, rfl⟩
abbrev main_c_72 : Ref sig .tc := ⟨.hbm, 279, rfl⟩
abbrev main_v190 : Ref sig .tc := ⟨.hbm, 280, rfl⟩
abbrev main_v191 : Ref sig .tc := ⟨.hbm, 281, rfl⟩
abbrev main_c_73 : Ref sig .tc := ⟨.hbm, 282, rfl⟩
abbrev main_v192 : Ref sig .tc := ⟨.hbm, 283, rfl⟩
abbrev main_v193 : Ref sig .tc := ⟨.hbm, 284, rfl⟩
abbrev main_c_74 : Ref sig .tc := ⟨.hbm, 285, rfl⟩
abbrev main_v194 : Ref sig .tc := ⟨.hbm, 286, rfl⟩
abbrev main_v195 : Ref sig .tc := ⟨.hbm, 287, rfl⟩
abbrev main_v196 : Ref sig .tc := ⟨.hbm, 288, rfl⟩
abbrev main_c_75 : Ref sig .tc := ⟨.hbm, 289, rfl⟩
abbrev main_v197 : Ref sig .tc := ⟨.hbm, 290, rfl⟩
abbrev main_v198 : Ref sig .tc := ⟨.hbm, 291, rfl⟩
abbrev main_c_76 : Ref sig .tc := ⟨.hbm, 292, rfl⟩
abbrev main_v199 : Ref sig .tc := ⟨.hbm, 293, rfl⟩
abbrev main_v200 : Ref sig .tc := ⟨.hbm, 294, rfl⟩
abbrev main_c_77 : Ref sig .tc := ⟨.hbm, 295, rfl⟩
abbrev main_v201 : Ref sig .tc := ⟨.hbm, 296, rfl⟩
abbrev main_v202 : Ref sig .tc := ⟨.hbm, 297, rfl⟩
abbrev main_v203 : Ref sig .tc := ⟨.hbm, 298, rfl⟩
abbrev main_c_78 : Ref sig .tc := ⟨.hbm, 299, rfl⟩
abbrev main_v204 : Ref sig .tc := ⟨.hbm, 300, rfl⟩
abbrev main_v205 : Ref sig .tc := ⟨.hbm, 301, rfl⟩
abbrev main_c_79 : Ref sig .tc := ⟨.hbm, 302, rfl⟩
abbrev main_v206 : Ref sig .tc := ⟨.hbm, 303, rfl⟩
abbrev main_v207 : Ref sig .tc := ⟨.hbm, 304, rfl⟩
abbrev main_c_80 : Ref sig .tc := ⟨.hbm, 305, rfl⟩
abbrev main_v208 : Ref sig .tc := ⟨.hbm, 306, rfl⟩
abbrev main_v209 : Ref sig .tc := ⟨.hbm, 307, rfl⟩
abbrev main_v210 : Ref sig .tc := ⟨.hbm, 308, rfl⟩
abbrev main_v211 : Ref sig .tc := ⟨.hbm, 309, rfl⟩
abbrev main_v212 : Ref sig .tc := ⟨.hbm, 310, rfl⟩
abbrev main_call4_c : Ref sig .tc := ⟨.hbm, 311, rfl⟩
abbrev main_call4_v0 : Ref sig .tc := ⟨.hbm, 312, rfl⟩
abbrev main_call4_v1 : Ref sig .tc := ⟨.hbm, 313, rfl⟩
abbrev main_call4_c_0 : Ref sig .tc := ⟨.hbm, 314, rfl⟩
abbrev main_call4_v2 : Ref sig .tc := ⟨.hbm, 315, rfl⟩
abbrev main_call4_v3 : Ref sig .tc := ⟨.hbm, 316, rfl⟩
abbrev main_call4_v4 : Ref sig .tc := ⟨.hbm, 317, rfl⟩
abbrev main_call4_v5 : Ref sig .tc := ⟨.hbm, 318, rfl⟩
abbrev main_call4_c_1 : Ref sig .tc := ⟨.hbm, 319, rfl⟩
abbrev main_call4_c_2 : Ref sig .tc := ⟨.hbm, 320, rfl⟩
abbrev main_call4_v6 : Ref sig .tc := ⟨.hbm, 321, rfl⟩
abbrev main_call4_v7 : Ref sig .tc := ⟨.hbm, 322, rfl⟩
abbrev main_call4_v8 : Ref sig .tc := ⟨.hbm, 323, rfl⟩
abbrev main_call4_v9 : Ref sig .tc := ⟨.hbm, 324, rfl⟩
abbrev main_call4_v10 : Ref sig .tc := ⟨.hbm, 325, rfl⟩
abbrev main_call4_v11 : Ref sig .tc := ⟨.hbm, 326, rfl⟩
abbrev main_call4_c_3 : Ref sig .tc := ⟨.hbm, 327, rfl⟩
abbrev main_call4_v12 : Ref sig .tc := ⟨.hbm, 328, rfl⟩
abbrev main_call4_v13 : Ref sig .tc := ⟨.hbm, 329, rfl⟩
abbrev main_call4_cst : Ref sig .tc := ⟨.hbm, 330, rfl⟩
abbrev main_call4_v14 : Ref sig .tc := ⟨.hbm, 331, rfl⟩
abbrev main_v213 : Ref sig .tc := ⟨.hbm, 332, rfl⟩
abbrev main_v214 : Ref sig .tc := ⟨.hbm, 333, rfl⟩
abbrev main_cst_81 : Ref sig .tc := ⟨.hbm, 334, rfl⟩
abbrev main_v215 : Ref sig .tc := ⟨.hbm, 335, rfl⟩
abbrev main_v216 : Ref sig .tc := ⟨.hbm, 336, rfl⟩
abbrev main_v217 : Ref sig .tc := ⟨.hbm, 337, rfl⟩
abbrev main_cst_82 : Ref sig .tc := ⟨.hbm, 338, rfl⟩
abbrev main_call5_v0 : Ref sig .tc := ⟨.hbm, 339, rfl⟩
abbrev main_call5_v1 : Ref sig .tc := ⟨.hbm, 340, rfl⟩
abbrev main_v218 : Ref sig .tc := ⟨.hbm, 341, rfl⟩
abbrev main_v219 : Ref sig .tc := ⟨.hbm, 342, rfl⟩
abbrev main_cst_83 : Ref sig .tc := ⟨.hbm, 343, rfl⟩
abbrev main_call6_v0 : Ref sig .tc := ⟨.hbm, 344, rfl⟩
abbrev main_call6_v1 : Ref sig .tc := ⟨.hbm, 345, rfl⟩
abbrev main_call6_v2 : Ref sig .tc := ⟨.hbm, 346, rfl⟩
abbrev main_v220 : Ref sig .tc := ⟨.hbm, 347, rfl⟩
abbrev main_c_84 : Ref sig .tc := ⟨.hbm, 348, rfl⟩

abbrev nD : Nat := 1
abbrev τ : Topo := Topo.v7x

variable {F : FTy → Type} [FloatOps F]
-- ==== Proof.Common.lean ====
/-
  The SparseCore program as the launch theorem sees it, and what every module of the proof shares: the configuration of the two
  calls, the resource algebra (the handshakes' rounds beside the transfers' counters), the tiles' coordinates, and rank-one arrays
  read at a natural number.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.March

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The side conditions of the launch on the handshakes' semaphores. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

/-- The proof's resource algebra: two calls, hence two handshake indices. -/
abbrev MM (F : FTy → Type) := MT nD τ sig (HIx 2) (Elt F) ℕ UU ℕ

abbrev EH : Emb UH (MM F) := embL

/-! ## The tiles -/

abbrev cV (L : grid0.Coords) : Fin τ.nSC := (L 0).castLE hcore0
abbrev jV (L : grid0.Coords) : Fin τ.nSub := (L 1).castLE hsub0
abbrev cV1 (L : grid1.Coords) : Fin τ.nSC := (L 0).castLE hcore1
abbrev jV1 (L : grid1.Coords) : Fin τ.nSub := (L 1).castLE hsub1

/-! ## Rank-one arrays read at a natural number -/

/-- Element `n` of a rank-one array, the index taken modulo the extent so that it is always one. -/
def nth {α : Type} {N : ℕ} [NeZero N] (f : (⟨1, ![N]⟩ : Shape).Idx → α) (n : ℕ) : α :=
  f fun a => ⟨n % N, by rw [Fin.eq_zero a]; exact Nat.mod_lt _ (NeZero.pos N)⟩

/-- An array at an index is the array at that index's number. -/
theorem nth_val {α : Type} {N : ℕ} [NeZero N] (f : (⟨1, ![N]⟩ : Shape).Idx → α) (i : (⟨1, ![N]⟩ : Shape).Idx) : nth f (i 0).val = f i := by
  unfold nth
  congr 1
  funext a
  apply Fin.ext
  have h : (i 0).val < N := (i 0).isLt
  rw [Fin.eq_zero a]
  exact Nat.mod_eq_of_lt h

/-- The same, for any number equal to the index's. -/
theorem eq_nth {α : Type} {N : ℕ} [NeZero N] (f : (⟨1, ![N]⟩ : Shape).Idx → α) (i : (⟨1, ![N]⟩ : Shape).Idx) {n : ℕ} (h : (i 0).val = n) : f i = nth f n := by
  subst h; exact (nth_val f i).symm

/-! ## An indexed load behind its check -/

section Gather

variable [FloatOps F] {Λ : Labels} {defs : Defs nD τ sig (Elt F) Λ} {α : Type}

local notation "𝕄" => MM F

/-- The check of an indexed load's indices and the load behind it: with the check's proof and any share of the array, the program
    goes on with the array's elements at the indices. -/
theorem wp_gather (𝒱 : Variants) (c : Thread nD τ) (bd : Option 𝒱.V) (E : Set ℕ) {Q : α → sProp 𝕄} {s t : Shape} {e : EltTy} {P : Prop} {dP : Decidable P} (hP : P)
    {base : Memref sig c.2.kind .vmem s e} {idxs : Fin s.rank → IVec t 32} {h : PLift P → ∀ a x, (idxs a x).toNat < s.size a} {hl : base.view.Loads}
    {k : PLift P → Vec F t e → Prog (TpuEff nD τ sig (Elt F) Λ c.2) α} {q : PosShare TreeShare} {f : Buf (Elt F) (base.view.loc c)} :
    (base.view.loc c ↦{q} f)
      ⊢ iprop(((base.view.loc c ↦{q} f) -∗ wp frame (wpE defs 𝒱 c bd) E (k ⟨hP⟩ (loadIdx ((base.access (.whole s)).read (Elt F) f) idxs (h ⟨hP⟩))) Q)
        -∗ wp frame (wpE defs 𝒱 c bd) E (Prog.lift (TpuEff.assume P dP) >>= fun w => SparseCore.vectorLoadIdx base idxs (h w) hl >>= fun v => k w v) Q) := by
  show _ ⊢ iprop((_ -∗ _) -∗ wp frame (wpE defs 𝒱 c bd) E (.op (.assume P dP) _) Q)
  rw [wp_assume_of _ _ _ _ hP]
  iintro H Hk
  iapply (SparseCore.wp_vectorLoadIdx 𝒱 c bd E (base := base) (idxs := idxs) (h := h ⟨hP⟩) (hl := hl) (k := k ⟨hP⟩) (S := Finset.univ) (q := q) (f := f) (Finset.subset_univ _)) $$ H
  iexact Hk

/-- An indexed load of a rank-one array of contents `g` whose check is already behind it, each lane's index known as a number `n x`. -/
theorem wp_load1 (𝒱 : Variants) (c : Thread nD τ) (bd : Option 𝒱.V) (E : Set ℕ) {Q : α → sProp 𝕄} {N : ℕ} [NeZero N] {t : Shape} {e : EltTy} {v : IVec t 32}
    (n : t.Idx → ℕ) (hn : ∀ x, (v x).toNat = n x)
    {base : Memref sig c.2.kind .vmem ⟨1, ![N]⟩ e} {h : ∀ a x, ((![v] : Fin 1 → IVec t 32) a x).toNat < (⟨1, ![N]⟩ : Shape).size a} {hl : base.view.Loads}
    {k : Vec F t e → Prog (TpuEff nD τ sig (Elt F) Λ c.2) α} {q : PosShare TreeShare} {f : Buf (Elt F) (base.view.loc c)}
    (g : (⟨1, ![N]⟩ : Shape).Idx → Elt F e) (hg : (base.access (.whole ⟨1, ![N]⟩)).read (Elt F) f = g) :
    (base.view.loc c ↦{q} f)
      ⊢ iprop(((base.view.loc c ↦{q} f) -∗ wp frame (wpE defs 𝒱 c bd) E (k (fun x => nth g (n x))) Q)
        -∗ wp frame (wpE defs 𝒱 c bd) E (SparseCore.vectorLoadIdx base ![v] h hl >>= k) Q) := by
  have e1 : loadIdx ((base.access (.whole ⟨1, ![N]⟩)).read (Elt F) f) ![v] h = fun x => nth g (n x) := by
    rw [hg]
    funext x
    exact eq_nth g _ (hn x)
  rw [← e1]
  exact SparseCore.wp_vectorLoadIdx 𝒱 c bd E (base := base) (S := Finset.univ) (q := q) (f := f) (Finset.subset_univ _)

/-- The same over a rank-one array of contents `g`, each lane's index known as a number `n x` below the extent: what is loaded is
    `g` at those numbers. -/
theorem wp_gather1 (𝒱 : Variants) (c : Thread nD τ) (bd : Option 𝒱.V) (E : Set ℕ) {Q : α → sProp 𝕄} {N : ℕ} [NeZero N] {t : Shape} {e : EltTy} {v : IVec t 32}
    (n : t.Idx → ℕ) (hn : ∀ x, (v x).toNat = n x) (hN : ∀ x, n x < N) {P : Prop} {dP : Decidable P} (hPe : (∀ a x, ((![v] : Fin 1 → IVec t 32) a x).toNat < (⟨1, ![N]⟩ : Shape).size a) = P)
    {base : Memref sig c.2.kind .vmem ⟨1, ![N]⟩ e} {h : PLift P → ∀ a x, ((![v] : Fin 1 → IVec t 32) a x).toNat < (⟨1, ![N]⟩ : Shape).size a} {hl : base.view.Loads}
    {k : PLift P → Vec F t e → Prog (TpuEff nD τ sig (Elt F) Λ c.2) α} {q : PosShare TreeShare} {f : Buf (Elt F) (base.view.loc c)}
    (g : (⟨1, ![N]⟩ : Shape).Idx → Elt F e) (hg : (base.access (.whole ⟨1, ![N]⟩)).read (Elt F) f = g) :
    (base.view.loc c ↦{q} f)
      ⊢ iprop(((base.view.loc c ↦{q} f) -∗ ∀ hP : P, wp frame (wpE defs 𝒱 c bd) E (k ⟨hP⟩ (fun x => nth g (n x))) Q)
        -∗ wp frame (wpE defs 𝒱 c bd) E (Prog.lift (TpuEff.assume P dP) >>= fun w => SparseCore.vectorLoadIdx base ![v] (h w) hl >>= fun v => k w v) Q) := by
  have hP : P := by
    rw [← hPe]
    intro a x
    rw [Fin.eq_zero a]
    show (v x).toNat < N
    rw [hn]; exact hN x
  have e1 : loadIdx ((base.access (.whole ⟨1, ![N]⟩)).read (Elt F) f) ![v] (h ⟨hP⟩) = fun x => nth g (n x) := by
    rw [hg]
    funext x
    exact eq_nth g _ (hn x)
  iintro H Hk
  iapply (wp_gather 𝒱 c bd E hP (base := base) (k := k) (h := h) (hl := hl) (q := q) (f := f)) $$ H
  iintro H
  rw [e1]
  ihave Hk' := Hk $$ H
  iapply Hk'

end Gather

/-! ## A tile's own buffers and semaphores, some of them by name -/

/-- Some members of a finite separating conjunction taken out one by one, the others together at the end. -/
theorem bigSep_take {M : Type} [URA M] {ι : Type} [DecidableEq ι] (f : ι → sProp M) : ∀ (l : List ι) (s : Finset ι), l.Nodup → (∀ a ∈ l, a ∈ s) →
    bigSep s f = l.foldr (fun a r => iprop(f a ∗ r)) (bigSep (s \ l.toFinset) f)
  | [], s, _, _ => by simp
  | a :: l, s, hn, hm => by
    rw [List.nodup_cons] at hn
    rw [SparseCore.bigSep_erase' (hm a List.mem_cons_self), bigSep_take f l (s.erase a) hn.2 fun b hb =>
      Finset.mem_erase.mpr ⟨fun e => hn.1 (e ▸ hb), hm b (List.mem_cons_of_mem _ hb)⟩]
    have e : s.erase a \ l.toFinset = s \ (a :: l).toFinset := by
      ext b; simp only [Finset.mem_sdiff, Finset.mem_erase, List.mem_toFinset, List.mem_cons]; tauto
    rw [e]; rfl

/-- A tile's semaphores at zero, the listed ones by name. -/
theorem ownSems_take (d : Dev nD) (c : Fin τ.nSC) (i : Fin τ.nSub) (l : List (SemLoc sig)) (hn : l.Nodup) (hs : ∀ a ∈ l, a.isScoped .scVector = true) :
    (ownSems0 (V d c i) : sProp (MM F))
      = l.foldr (fun a r => iprop(semVal ((V d c i, a) : GSem nD τ sig) 0 ∗ r))
          (bigSep (ownCells (V d c i) \ (l.map fun a => ((V d c i, a) : GSem nD τ sig)).toFinset) fun g => semVal g 0) := by
  unfold SparseCore.Cfg.ownSems0
  rw [bigSep_take _ (l.map fun a => ((V d c i, a) : GSem nD τ sig)) _ (hn.map fun a b e => (Prod.mk.inj e).2), List.foldr_map]
  intro g hg
  obtain ⟨a, ha, rfl⟩ := List.mem_map.mp hg
  exact mem_ownCells.mpr ⟨rfl, hs a ha⟩

/-- A tile's buffers at some contents, the listed ones by name. -/
theorem ownBufs_take (d : Dev nD) (c : Fin τ.nSC) (i : Fin τ.nSub) (l : List (Ref sig .scVector)) (hn : l.Nodup)
    (hs : ∀ r ∈ l, ((Proc.scVector c i).devRef r).owner = .proc (.scVector c i)) :
    (ownBufs (V d c i) : sProp (MM F))
      = l.foldr (fun r P => iprop((∃ f, (V d c i).loc r ↦{fullShare} f) ∗ P))
          (bigSep (ownRefs (τ := τ) (.scVector c i) \ (l.map fun r => (Proc.scVector c i).devRef r).toFinset) fun b => iprop(∃ f, ((d, b) : Loc nD τ sig) ↦{fullShare} f)) := by
  unfold SparseCore.Cfg.ownBufs
  rw [bigSep_take _ (l.map fun r => (Proc.scVector c i).devRef r) _ (hn.map (Proc.devRef_injective _)), List.foldr_map]
  intro g hg
  obtain ⟨r, hr, rfl⟩ := List.mem_map.mp hg
  exact SparseCore.Cfg.mem_ownRefs_of_owner (hs r hr)

/-! ## Intervals of a rank-one array -/

/-- The `n` elements from number `a` on. -/
def span (N a n : ℕ) : Finset (⟨1, ![N]⟩ : Shape).Idx := Finset.univ.filter fun i => a ≤ (i 0).val ∧ (i 0).val < a + n

theorem mem_span {N a n : ℕ} {i : (⟨1, ![N]⟩ : Shape).Idx} : i ∈ span N a n ↔ a ≤ (i 0).val ∧ (i 0).val < a + n := by simp [span]

/-- A rectangle of unit stride is an interval. -/
theorem set_unit_span {N n a : ℕ} (off : Fin 1 → ℕ) (h : ∀ x, off x + (![n] : Fin 1 → ℕ) x ≤ (⟨1, ![N]⟩ : Shape).size x) (ho : off = ![a]) :
    (Rect.unit (s := ⟨1, ![N]⟩) off ![n] h).set = span N a n := by
  subst ho
  ext i
  rw [mem_span, Rect.mem_set_unit]
  constructor
  · intro hi; exact hi 0
  · intro hi x; rw [Fin.eq_zero x]; exact hi

/-- An array at a number below the extent is the array at an index of that number. -/
theorem nth_of_lt {α : Type} {N : ℕ} [NeZero N] (f : (⟨1, ![N]⟩ : Shape).Idx → α) {n : ℕ} (h : n < N) : ∃ i : (⟨1, ![N]⟩ : Shape).Idx, (i 0).val = n ∧ nth f n = f i :=
  ⟨_, Nat.mod_eq_of_lt h, rfl⟩

/-- One unmasked write through a whole view, at an element of the view. -/
theorem writes_whole_emb {κ : Kind} {sp : Space} {s : Shape} {e : EltTy} (Val : EltTy → Type) (v : View sig κ sp s e) (f : v.ty.Contents Val) (w : s.Idx → Val e) (x : s.Idx) :
    v.writes Val f [⟨Rect.whole s, w⟩] (v.emb x) = _root_.cast (congrArg Val v.elt_eq.symm) (w x) := by
  rw [View.writes_singleton]
  have he : v.emb x = (v.slice (Rect.whole s)).emb x := by
    show _ = v.emb ((Rect.whole s).emb x)
    rw [Rect.emb_whole_apply]
  rw [he]
  exact View.write_emb_of_mem (v := v.slice (Rect.whole s)) f w (Finset.mem_univ x)

end Cert.Proof.March

end
-- ==== Proof.MarchVal.lean ====
/-
  The values of the march call: the numbers of one ray, those of one of its steps, and the three arrays the call leaves; and the
  indexed store of a vector of lanes.
-/
module

public import proofs.«01_k».proof.Proof.Common

@[expose] public section

noncomputable section

namespace Cert.Proof.March

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## One ray -/

/-- A ray: three components of its direction, then three of its origin. -/
abbrev Ray (F : FTy → Type) : Type := Fin 6 → F .f32

/-- Ray `r` of an array of rays, six numbers each. -/
abbrev rayOf {N : ℕ} [NeZero N] (f : (⟨1, ![N]⟩ : Shape).Idx → F .f32) (r : ℕ) : Ray F := fun j => nth f (6 * r + j.val)

/-- The reciprocal of a direction's component, a component near zero replaced by a small one. -/
def recip (v : F .f32) : F .f32 :=
  FloatOps.divf (FloatOps.ofBits .f32 0x3F800000#32)
    (Scalar.select (FloatOps.cmpf .ogt (FloatOps.absf v) (FloatOps.ofBits .f32 0x3089705F#32)) v (FloatOps.ofBits .f32 0x3089705F#32))

/-- The time at which the ray meets the lower face of axis `j`. -/
def lower (R : Ray F) (j : Fin 3) : F .f32 := FloatOps.mulf (FloatOps.subf (FloatOps.ofBits .f32 0xBF800000#32) (R ⟨j.val + 3, by omega⟩)) (recip (R ⟨j.val, by omega⟩))

/-- The time at which it meets the upper face. -/
def upper (R : Ray F) (j : Fin 3) : F .f32 := FloatOps.mulf (FloatOps.subf (FloatOps.ofBits .f32 0x3F800000#32) (R ⟨j.val + 3, by omega⟩)) (recip (R ⟨j.val, by omega⟩))

/-- The time of entry into the box. -/
def enter (R : Ray F) : F .f32 :=
  FloatOps.maximumf (FloatOps.maximumf (FloatOps.minimumf (lower R 0) (upper R 0)) (FloatOps.minimumf (lower R 1) (upper R 1))) (FloatOps.minimumf (lower R 2) (upper R 2))

/-- The time of leaving it. -/
def leave (R : Ray F) : F .f32 :=
  FloatOps.minimumf (FloatOps.minimumf (FloatOps.maximumf (lower R 0) (upper R 0)) (FloatOps.maximumf (lower R 1) (upper R 1))) (FloatOps.maximumf (lower R 2) (upper R 2))

/-- Where the march begins. -/
def near (R : Ray F) : F .f32 := FloatOps.maximumf (enter R) (FloatOps.ofBits .f32 0x3E4CCCCD#32)

/-- Where it ends. -/
def far (R : Ray F) : F .f32 :=
  Scalar.select (FloatOps.cmpf .ogt (leave R) (FloatOps.maximumf (enter R) (FloatOps.ofBits .f32 0x00000000#32))) (FloatOps.maximumf (leave R) (near R)) (near R)

/-! ## One step of a ray -/

/-- The time of step `s`; the step's share of it is computed on the scalar unit. -/
def time (R : Ray F) (s : ℕ) : F .f32 :=
  FloatOps.addf (near R) (Scalar.mulf (Scalar.addf (Scalar.sitofp .f32 (BitVec.ofNat 32 s)) (Scalar.ofBits .f32 0x3F000000#32)) (Scalar.ofBits .f32 0x3CDDB3D7#32))

/-- Coordinate `j` of the ray's point at step `s`. -/
def point (R : Ray F) (s : ℕ) (j : Fin 3) : F .f32 := FloatOps.addf (R ⟨j.val + 3, by omega⟩) (FloatOps.mulf (time R s) (R ⟨j.val, by omega⟩))

/-- The grid coordinate of a coordinate, before it is bounded above. -/
def cellLow (x : F .f32) : BitVec 32 :=
  IntOp.maxsi 0#32 (FloatOps.fptosi 32 (FloatOps.mulf (FloatOps.addf (FloatOps.mulf (FloatOps.minimumf (FloatOps.ofBits .f32 0x3F800000#32)
    (FloatOps.maximumf (FloatOps.ofBits .f32 0xBF800000#32) x)) (FloatOps.ofBits .f32 0x3F000000#32)) (FloatOps.ofBits .f32 0x3F000000#32)) (FloatOps.ofBits .f32 0x43000000#32)))

/-- The grid coordinate of a coordinate: a number from 0 to 127. -/
def cell (x : F .f32) : BitVec 32 := IntOp.minsi 127#32 (cellLow x)

/-- The three tables of spread bits, as arrays. -/
abbrev spread0 : S128.Idx → BitVec 32 := fun i => lit0 (S128.rowMajor i)
abbrev spread1 : S128.Idx → BitVec 32 := fun i => lit1 (S128.rowMajor i)
abbrev spread2 : S128.Idx → BitVec 32 := fun i => lit2 (S128.rowMajor i)

/-- The number of a grid cell, its coordinates' bits interleaved by the tables. -/
def cellNo (a b c : BitVec 32) : BitVec 32 := IntOp.ori (IntOp.ori (nth spread0 a.toNat) (nth spread1 b.toNat)) (nth spread2 c.toNat)

/-- The number of the cell in which the ray is at step `s`. -/
def code (R : Ray F) (s : ℕ) : BitVec 32 := cellNo (cell (point R s 0)) (cell (point R s 1)) (cell (point R s 2))

/-- Whether the bitmap has the cell's bit set. -/
def occupied (bm : S65536.Idx → BitVec 32) (c : BitVec 32) : BitVec 1 :=
  IntOp.cmpi .ne (IntOp.andi (IntOp.shrui .vector (nth bm (IntOp.shrsi .vector c 5#32).toNat) (IntOp.andi c 31#32)) 1#32) 0#32

/-- Whether step `s` of the ray counts: before the end, and in an occupied cell. -/
def counts (bm : S65536.Idx → BitVec 32) (R : Ray F) (s : ℕ) : BitVec 1 := IntOp.andi (FloatOps.cmpf .olt (time R s) (far R)) (occupied bm (code R s))

/-! ## The arrays of a run of rays -/

/-- Number `n` of the coordinates of a run of rays, 128 steps each and three coordinates per step. -/
def xyzFrom (bm : S65536.Idx → BitVec 32) (Rs : ℕ → Ray F) (n : ℕ) : F .f32 :=
  Scalar.select (counts bm (Rs (n / 384)) (n % 384 / 3)) (point (Rs (n / 384)) (n % 384 / 3) ⟨n % 3, Nat.mod_lt _ (by decide)⟩) (FloatOps.ofBits .f32 0x00000000#32)

/-- Number `n` of their times. -/
def zFrom (bm : S65536.Idx → BitVec 32) (Rs : ℕ → Ray F) (n : ℕ) : F .f32 :=
  Scalar.select (counts bm (Rs (n / 128)) (n % 128)) (time (Rs (n / 128)) (n % 128)) (FloatOps.ofBits .f32 0x00000000#32)

/-- Number `n` of their marks. -/
def markFrom (bm : S65536.Idx → BitVec 32) (Rs : ℕ → Ray F) (n : ℕ) : BitVec 32 := (counts bm (Rs (n / 128)) (n % 128)).setWidth 32

/-- A run that starts `a` rays on. -/
theorem xyzFrom_shift (bm : S65536.Idx → BitVec 32) (Rs Ts : ℕ → Ray F) (a n : ℕ) (h : Rs (n / 384) = Ts (a + n / 384)) : xyzFrom bm Rs n = xyzFrom bm Ts (384 * a + n) := by
  have e1 : (384 * a + n) / 384 = a + n / 384 := by omega
  have e2 : (384 * a + n) % 384 = n % 384 := by omega
  have e3 : (384 * a + n) % 3 = n % 3 := by omega
  unfold xyzFrom
  simp only [e1, e2, e3, h]

theorem zFrom_shift (bm : S65536.Idx → BitVec 32) (Rs Ts : ℕ → Ray F) (a n : ℕ) (h : Rs (n / 128) = Ts (a + n / 128)) : zFrom bm Rs n = zFrom bm Ts (128 * a + n) := by
  have e1 : (128 * a + n) / 128 = a + n / 128 := by omega
  have e2 : (128 * a + n) % 128 = n % 128 := by omega
  unfold zFrom
  simp only [e1, e2, h]

theorem markFrom_shift (bm : S65536.Idx → BitVec 32) (Rs Ts : ℕ → Ray F) (a n : ℕ) (h : Rs (n / 128) = Ts (a + n / 128)) : markFrom bm Rs n = markFrom bm Ts (128 * a + n) := by
  have e1 : (128 * a + n) / 128 = a + n / 128 := by omega
  have e2 : (128 * a + n) % 128 = n % 128 := by omega
  unfold markFrom
  simp only [e1, e2, h]

/-! ## Bounds of the cells' numbers -/

/-- A number bounded below by 0 and above by 127. -/
theorem clamp_lt (v : BitVec 32) : (IntOp.minsi 127#32 (IntOp.maxsi 0#32 v)).toNat < 128 := by
  unfold IntOp.minsi IntOp.maxsi
  have h0 : (0#32 : BitVec 32).toInt = 0 := by decide
  have h1 : (127#32 : BitVec 32).toInt = 127 := by decide
  by_cases h : (v.slt 0#32) = true
  · simp [h]
  · simp only [h, Bool.false_eq_true, if_false]
    by_cases g : ((127#32 : BitVec 32).slt v) = true
    · simp [g]
    · simp only [g, Bool.false_eq_true, if_false]
      rw [BitVec.slt_iff_toInt_lt, h0] at h
      rw [BitVec.slt_iff_toInt_lt, h1] at g
      rw [BitVec.toInt_eq_toNat_cond] at h g
      have := v.isLt
      split at h <;> omega

/-- A grid coordinate is at most 127. -/
theorem cell_lt (x : F .f32) : (cell x).toNat < 128 := clamp_lt _

theorem spread0_lt (n : ℕ) : (nth spread0 n).toNat < 2 ^ 21 :=
  (show ∀ k : Fin 128, (lit0 k).toNat < 2 ^ 21 by decide) _

theorem spread1_lt (n : ℕ) : (nth spread1 n).toNat < 2 ^ 21 :=
  (show ∀ k : Fin 128, (lit1 k).toNat < 2 ^ 21 by decide) _

theorem spread2_lt (n : ℕ) : (nth spread2 n).toNat < 2 ^ 21 :=
  (show ∀ k : Fin 128, (lit2 k).toNat < 2 ^ 21 by decide) _

/-- A cell's number is below the number of cells. -/
theorem cellNo_lt (a b c : BitVec 32) : (cellNo a b c).toNat < 2 ^ 21 := by
  unfold cellNo IntOp.ori
  rw [BitVec.toNat_or, BitVec.toNat_or]
  exact Nat.or_lt_two_pow (Nat.or_lt_two_pow (spread0_lt _) (spread1_lt _)) (spread2_lt _)

/-- The word that holds a cell's bit. -/
theorem word_toNat {c : BitVec 32} (h : c.toNat < 2 ^ 21) : (IntOp.shrsi .vector c 5#32).toNat = c.toNat / 32 := by
  unfold IntOp.shrsi
  have hm : c.msb = false := by rw [BitVec.msb_eq_false_iff_two_mul_lt]; omega
  rw [if_pos (by decide)]
  show (c.sshiftRight 5).toNat = _
  rw [BitVec.sshiftRight_eq_of_msb_false hm, BitVec.toNat_ushiftRight, Nat.shiftRight_eq_div_pow]

/-! ## An indexed store -/

section Scatter

/-- A fold of writes, each of which changes the element looked at only if its key matches, leaves there a matching write's value or,
    there being none, the first value. -/
theorem fold_at {ι α β : Type} (step : α → ι → α) (at' : α → β) (hit : ι → Prop) (w : ι → β) (h1 : ∀ g k, hit k → at' (step g k) = w k) (h2 : ∀ g k, ¬ hit k → at' (step g k) = at' g) :
    ∀ (l : List ι) (g : α), (∃ k ∈ l, hit k ∧ at' (l.foldl step g) = w k) ∨ ((∀ k ∈ l, ¬ hit k) ∧ at' (l.foldl step g) = at' g)
  | [], _ => .inr ⟨by simp, rfl⟩
  | k :: l, g => by
    rw [List.foldl_cons]
    rcases fold_at step at' hit w h1 h2 l (step g k) with ⟨k', hk', e1, e2⟩ | ⟨e1, e2⟩
    · exact .inl ⟨k', List.mem_cons_of_mem _ hk', e1, e2⟩
    · by_cases hk : hit k
      · exact .inl ⟨k, List.mem_cons_self, hk, e2.trans (h1 g k hk)⟩
      · refine .inr ⟨?_, e2.trans (h2 g k hk)⟩
        intro b hb
        rcases List.mem_cons.mp hb with rfl | hb
        · exact hk
        · exact e1 b hb

/-- The same when the writes' names reach every key. -/
theorem fold_cover {ι κ α β : Type} (nm : ι → κ) (step : α → ι → α) (at' : α → β) (hit : κ → Prop) (w : κ → β) (h1 : ∀ g k, hit (nm k) → at' (step g k) = w (nm k))
    (h2 : ∀ g k, ¬ hit (nm k) → at' (step g k) = at' g) (l : List ι) (g : α) (hl : ∀ x, ∃ k ∈ l, x = nm k) :
    (∃ x, hit x ∧ at' (l.foldl step g) = w x) ∨ ((∀ x, ¬ hit x) ∧ at' (l.foldl step g) = at' g) := by
  rcases fold_at step at' (fun k => hit (nm k)) (fun k => w (nm k)) h1 h2 l g with ⟨k, -, e1, e2⟩ | ⟨e1, e2⟩
  · exact .inl ⟨nm k, e1, e2⟩
  · refine .inr ⟨fun x => ?_, e2⟩
    obtain ⟨k, hk, rfl⟩ := hl x
    exact e1 k hk

/-- What an unmasked indexed store of lanes leaves at an element: some lane's value whose index is the element's, or, no lane having
    that index, the value that was there. -/
theorem storeIdx_at {N : ℕ} {d : Fin 1 → ℕ} {e : EltTy} (f : Vec F ⟨1, ![N]⟩ e) (v : IVec ⟨1, d⟩ 32) (w : Vec F ⟨1, d⟩ e)
    (h : ∀ a x, ((![v] : Fin 1 → IVec ⟨1, d⟩ 32) a x).toNat < (⟨1, ![N]⟩ : Shape).size a) (y : (⟨1, ![N]⟩ : Shape).Idx) :
    (∃ x, (v x).toNat = (y 0).val ∧ storeIdx f ![v] w (fun _ => 1#1) false h y = w x)
      ∨ ((∀ x, (v x).toNat ≠ (y 0).val) ∧ storeIdx f ![v] w (fun _ => 1#1) false h y = f y) := by
  have cover : ∀ x : (⟨1, d⟩ : Shape).Idx, x = Shape.ofLane (d := d) (x 0) := by
    intro x; funext a; rw [Fin.eq_zero a]; rfl
  unfold storeIdx
  refine fold_cover (fun k => Shape.ofLane (d := d) k) _ (fun g => g y) (fun x => (v x).toNat = (y 0).val) w ?_ ?_ (List.finRange (d 0)) f fun x => ⟨x 0, List.mem_finRange _, cover x⟩
  · intro g k hk
    simp only [if_pos]
    refine (if_pos fun a => ?_).trans (if_neg Bool.false_ne_true)
    rw [Fin.eq_zero a]; exact hk.symm
  · intro g k hk
    simp only [if_pos]
    exact if_neg fun hh => hk (hh 0).symm

variable {Λ : Labels} {defs : Defs nD τ sig (Elt F) Λ} {α : Type}

local notation "𝕄" => MM F

/-- An unmasked indexed store of lanes into a whole rank-one array of contents `f`: afterwards each element is some lane's value whose
    index is the element's, or, no lane having that index, what it was. -/
theorem wp_scatter (𝒱 : Variants) (c : Thread nD τ) (bd : Option 𝒱.V) (E : Set ℕ) {Q : α → sProp 𝕄} {N : ℕ} {d : Fin 1 → ℕ} {e : EltTy} {v : IVec ⟨1, d⟩ 32} {w : Vec F ⟨1, d⟩ e}
    {base : Memref sig c.2.kind .vmem ⟨1, ![N]⟩ e} {h : ∀ a x, ((![v] : Fin 1 → IVec ⟨1, d⟩ 32) a x).toNat < (⟨1, ![N]⟩ : Shape).size a}
    {hs : (base.access (.whole ⟨1, ![N]⟩)).Stores Finset.univ} {k : PUnit → Prog (TpuEff nD τ sig (Elt F) Λ c.2) α} {f : Buf (Elt F) (base.view.loc c)}
    (Good : Buf (Elt F) (base.view.loc c) → Prop) (hset : (base.access (.whole ⟨1, ![N]⟩)).set = Finset.univ)
    (hw : ∀ g : (⟨1, ![N]⟩ : Shape).Idx → Elt F e, (∀ y, (∃ x, (v x).toNat = (y 0).val ∧ g y = w x) ∨ ((∀ x, (v x).toNat ≠ (y 0).val) ∧ g y = (base.access (.whole ⟨1, ![N]⟩)).read (Elt F) f y))
      → Good ((base.access (.whole ⟨1, ![N]⟩)).write (Elt F) f g Finset.univ)) :
    (base.view.loc c ↦{fullShare} f)
      ⊢ iprop((∀ g, ⌜Good g⌝ -∗ (base.view.loc c ↦{fullShare} g) -∗ wp frame (wpE defs 𝒱 c bd) E (k ⟨⟩) Q)
        -∗ wp frame (wpE defs 𝒱 c bd) E (SparseCore.vectorStoreIdx base ![v] w (fun _ => 1#1) false h hs >>= k) Q) := by
  have hX := SparseCore.wp_vectorStoreIdx (F := F) (defs := defs) (Q := Q) 𝒱 c bd E (base := base) (idxs := ![v]) (v := w) (mask := fun _ => 1#1) (add := false) (h := h) (hs := hs) (k := k) (f := f)
  rw [hset] at hX
  iintro H Hk
  iapply hX $$ H
  iintro H
  ihave Hk' := Hk $$ %_
  ihave Hk' := Hk' $$ [] H
  · ipureintro
    exact hw _ (storeIdx_at _ v w h)
  iexact Hk'

end Scatter

end Cert.Proof.March
end
-- ==== Proof.MarchStep.lean ====
/-
  One step of the march of sixteen rays: the gathers of the cell's word, and the five indexed stores of the step's results.
-/
module

public import proofs.«01_k».proof.Proof.MarchVal

@[expose] public section

noncomputable section

namespace Cert.Proof.March

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

section Step

local notation "𝕄" => MM F

/-- Component `j` of the rays of the sixteen lanes. -/
abbrev lanes (R : ℕ → Ray F) (j : Fin 6) : Vec F S16 .f32 := fun x => R (x 0).val j

omit [FloatOps F] in
/-- The number of a step. -/
theorem iv_step (t : Fin k1_t2_loop.trips) : Scf.iv 0#32 1#32 t = BitVec.ofNat 32 t.val := by
  show 0#32 + BitVec.ofNat 32 t.val * 1#32 = _
  rw [BitVec.mul_one, BitVec.zero_add]

omit [FloatOps F] in
/-- The number of a lane, as the lanes' iota gives it. -/
theorem iota_lane (x : S16.Idx) : (iota .scVector S16 32 [0] iota_S16_d0_w32_scVector x).toNat = (x 0).val := by
  have hx : (x 0).val < 16 := (x 0).isLt
  show (BitVec.ofNat 32 _).toNat = _
  rw [BitVec.toNat_ofNat]
  simp
  omega

omit [FloatOps F] in
/-- The lanes' places in the coordinates' staging at step `t`. -/
theorem place_xyz (t : Fin k1_t2_loop.trips) (x : S16.Idx) : (k1_pay16 k1_pay3 (Scf.iv 0#32 1#32 t) x).toNat = 384 * (x 0).val + (3 * t.val + 0) := by
  have ht : t.val < 128 := t.isLt
  have hx : (x 0).val < 16 := (x 0).isLt
  show (iota .scVector S16 32 [0] iota_S16_d0_w32_scVector x * 384#32 + Scf.iv 0#32 1#32 t * 3#32).toNat = _
  rw [iv_step]
  have hi := iota_lane x
  simp only [BitVec.toNat_add, BitVec.toNat_mul, BitVec.toNat_ofNat]
  omega

omit [FloatOps F] in
theorem place_xyz1 (t : Fin k1_t2_loop.trips) (x : S16.Idx) : (k1_pay18 (k1_pay16 k1_pay3 (Scf.iv 0#32 1#32 t)) x).toNat = 384 * (x 0).val + (3 * t.val + 1) := by
  have ht : t.val < 128 := t.isLt
  have hx : (x 0).val < 16 := (x 0).isLt
  show (k1_pay16 k1_pay3 (Scf.iv 0#32 1#32 t) x + 1#32).toNat = _
  rw [BitVec.toNat_add, place_xyz, BitVec.toNat_ofNat]
  omega

omit [FloatOps F] in
theorem place_xyz2 (t : Fin k1_t2_loop.trips) (x : S16.Idx) : (k1_pay40 (k1_pay16 k1_pay3 (Scf.iv 0#32 1#32 t)) x).toNat = 384 * (x 0).val + (3 * t.val + 2) := by
  have ht : t.val < 128 := t.isLt
  have hx : (x 0).val < 16 := (x 0).isLt
  show (k1_pay16 k1_pay3 (Scf.iv 0#32 1#32 t) x + 2#32).toNat = _
  rw [BitVec.toNat_add, place_xyz, BitVec.toNat_ofNat]
  omega

omit [FloatOps F] in
/-- The lanes' places in the times' and the marks' staging at step `t`. -/
theorem place_z (t : Fin k1_t2_loop.trips) (x : S16.Idx) : (k1_pay42 k1_pay2 (Scf.iv 0#32 1#32 t) x).toNat = 128 * (x 0).val + t.val := by
  have ht : t.val < 128 := t.isLt
  have hx : (x 0).val < 16 := (x 0).isLt
  show (iota .scVector S16 32 [0] iota_S16_d0_w32_scVector x * 128#32 + Scf.iv 0#32 1#32 t).toNat = _
  rw [iv_step]
  have hi := iota_lane x
  simp only [BitVec.toNat_add, BitVec.toNat_mul, BitVec.toNat_ofNat]
  omega

omit [FloatOps F] in
/-- Places below the extent pass the check of the store. -/
theorem inb_of {N : ℕ} {v : IVec S16 32} {n : S16.Idx → ℕ} (hv : ∀ x, (v x).toNat = n x) (hn : ∀ x, n x < N) : ∀ a x, ((![v] : Fin 1 → IVec S16 32) a x).toNat < (⟨1, ![N]⟩ : Shape).size a := by
  intro a x
  rw [Fin.eq_zero a]
  show (v x).toNat < N
  rw [hv]; exact hn x

/-- The results of one step of one ray, in the arrays of the run. -/
theorem xyzFrom_at (bm : S65536.Idx → BitVec 32) (R : ℕ → Ray F) (r s : ℕ) (hs : s < 128) (j : Fin 3) :
    xyzFrom bm R (384 * r + (3 * s + j.val)) = Scalar.select (counts bm (R r) s) (point (R r) s j) (FloatOps.ofBits .f32 0x00000000#32) := by
  have hj : j.val < 3 := j.isLt
  have e1 : (384 * r + (3 * s + j.val)) / 384 = r := by omega
  have e2 : (384 * r + (3 * s + j.val)) % 384 / 3 = s := by omega
  have e3 : (384 * r + (3 * s + j.val)) % 3 = j.val := by omega
  unfold xyzFrom
  simp only [e1, e2, e3]

theorem zFrom_at (bm : S65536.Idx → BitVec 32) (R : ℕ → Ray F) (r s : ℕ) (hs : s < 128) :
    zFrom bm R (128 * r + s) = Scalar.select (counts bm (R r) s) (time (R r) s) (FloatOps.ofBits .f32 0x00000000#32) := by
  have e1 : (128 * r + s) / 128 = r := by omega
  have e2 : (128 * r + s) % 128 = s := by omega
  unfold zFrom
  simp only [e1, e2]

theorem markFrom_at (bm : S65536.Idx → BitVec 32) (R : ℕ → Ray F) (r s : ℕ) (hs : s < 128) :
    markFrom bm R (128 * r + s) = (counts bm (R r) s).setWidth 32 := by
  have e1 : (128 * r + s) / 128 = r := by omega
  have e2 : (128 * r + s) % 128 = s := by omega
  unfold markFrom
  simp only [e1, e2]

/-! ## The payloads of a step -/

section Payloads

variable (R : ℕ → Ray F) (t : Fin k1_t2_loop.trips)

theorem pay4_eq : k1_pay4 (fun x => near (R (x 0).val)) 0#32 1#32 t = (fun x => time (R (x 0).val) t.val) := by
  unfold k1_pay4
  rw [iv_step]
  rfl

theorem pay5_eq : k1_pay5 (fun x => near (R (x 0).val)) (fun x => far (R (x 0).val)) 0#32 1#32 t = (fun x => FloatOps.cmpf .olt (time (R (x 0).val) t.val) (far (R (x 0).val))) := by
  unfold k1_pay5; rw [pay4_eq]; rfl

theorem pay6_eq : k1_pay6 (lanes R 0) (lanes R 3) (fun x => near (R (x 0).val)) 0#32 1#32 t = (fun x => point (R (x 0).val) t.val 0) := by
  unfold k1_pay6; rw [pay4_eq]; rfl

theorem pay7_eq : k1_pay7 (lanes R 1) (lanes R 4) (fun x => near (R (x 0).val)) 0#32 1#32 t = (fun x => point (R (x 0).val) t.val 1) := by
  unfold k1_pay7; rw [pay4_eq]; rfl

theorem pay8_eq : k1_pay8 (lanes R 2) (lanes R 5) (fun x => near (R (x 0).val)) 0#32 1#32 t = (fun x => point (R (x 0).val) t.val 2) := by
  unfold k1_pay8; rw [pay4_eq]; rfl

theorem pay9_eq : k1_pay9 (lanes R 0) (lanes R 3) (fun x => near (R (x 0).val)) 0#32 1#32 t = fun x => cell (point (R (x 0).val) t.val 0) := by
  unfold k1_pay9; rw [pay6_eq]; rfl

theorem pay10_eq : k1_pay10 (lanes R 1) (lanes R 4) (fun x => near (R (x 0).val)) 0#32 1#32 t = (fun x => cellLow (point (R (x 0).val) t.val 1)) := by
  unfold k1_pay10; rw [pay7_eq]; rfl

theorem pay15_eq (bm : S65536.Idx → BitVec 32) : k1_pay15 (F := F) (fun x => FloatOps.cmpf .olt (time (R (x 0).val) t.val) (far (R (x 0).val))) (fun x => nth spread0 (cell (point (R (x 0).val) t.val 0)).toNat) (fun x => nth spread1 (cell (point (R (x 0).val) t.val 1)).toNat) (fun x => nth spread2 (cell (point (R (x 0).val) t.val 2)).toNat)
    (fun x => nth bm (IntOp.shrsi .vector (code (R (x 0).val) t.val) 5#32).toNat) = (fun x => counts bm (R (x 0).val) t.val) := rfl

end Payloads

/-! ## Checks and stores -/

section Rules

variable {Λ : Labels} {defs : Defs nD τ sig (Elt F) Λ} {α : Type}

/-- A check that holds is passed. -/
theorem wp_check (𝒱 : Variants) (c : Thread nD τ) (bd : Option 𝒱.V) (E : Set ℕ) {Q : α → sProp 𝕄} {P : Prop} {dP : Decidable P} (hP : P) {k : PLift P → Prog (TpuEff nD τ sig (Elt F) Λ c.2) α} :
    wp frame (wpE defs 𝒱 c bd) E (k ⟨hP⟩) Q ⊢ wp frame (wpE defs 𝒱 c bd) E (Prog.lift (TpuEff.assume P dP) >>= k) Q := by
  show _ ⊢ wp frame (wpE defs 𝒱 c bd) E (.op (.assume P dP) _) Q
  rw [wp_assume_of _ _ _ _ hP]
  exact BI.Entails.refl _

/-- An indexed store of sixteen lanes at places `p` apart, number `m` of each lane's `p` places: the places before `m` being right, those
    up to `m` are right afterwards. -/
theorem wp_put (𝒱 : Variants) (c : Thread nD τ) (bd : Option 𝒱.V) (E : Set ℕ) {Q : α → sProp 𝕄} {N : ℕ} {e : EltTy} {v : IVec S16 32} {w : Vec F S16 e}
    {base : Memref sig c.2.kind .vmem ⟨1, ![N]⟩ e} {h : ∀ a x, ((![v] : Fin 1 → IVec S16 32) a x).toNat < (⟨1, ![N]⟩ : Shape).size a}
    {hs : (base.access (.whole ⟨1, ![N]⟩)).Stores Finset.univ} {k : PUnit → Prog (TpuEff nD τ sig (Elt F) Λ c.2) α} {f : Buf (Elt F) (base.view.loc c)}
    (val : Buf (Elt F) (base.view.loc c) → (⟨1, ![N]⟩ : Shape).Idx → Elt F e) (hset : (base.access (.whole ⟨1, ![N]⟩)).set = Finset.univ)
    (hr : (base.access (.whole ⟨1, ![N]⟩)).read (Elt F) f = val f) (hwr : ∀ g, val ((base.access (.whole ⟨1, ![N]⟩)).write (Elt F) f g Finset.univ) = g)
    (G : ℕ → Elt F e) (p m : ℕ) (hm : m < p) (hN : N = 16 * p) (hv : ∀ x, (v x).toNat = p * (x 0).val + m) (hw : ∀ x, w x = G (p * (x 0).val + m))
    (hf : ∀ y, (y 0).val % p < m → val f y = G (y 0).val) :
    (base.view.loc c ↦{fullShare} f)
      ⊢ iprop((∀ g, ⌜∀ y, (y 0).val % p < m + 1 → val g y = G (y 0).val⌝ -∗ (base.view.loc c ↦{fullShare} g) -∗ wp frame (wpE defs 𝒱 c bd) E (k ⟨⟩) Q)
        -∗ wp frame (wpE defs 𝒱 c bd) E (SparseCore.vectorStoreIdx base ![v] w (fun _ => 1#1) false h hs >>= k) Q) := by
  refine wp_scatter 𝒱 c bd E (base := base) (f := f) (fun g => ∀ y, (y 0).val % p < m + 1 → val g y = G (y 0).val) hset ?_
  intro g hg y hy
  rw [hwr]
  rcases hg y with ⟨x, hx, e⟩ | ⟨hx, e⟩
  · rw [e, hw, ← hv, hx]
  · rw [e, hr]
    refine hf y ?_
    by_contra hc
    have hyN : (y 0).val < N := (y 0).isLt
    have hp : (y 0).val / p < 16 := by rw [Nat.div_lt_iff_lt_mul (by omega)]; omega
    refine hx (fun a => ⟨(y 0).val / p, by rw [Fin.eq_zero a]; exact hp⟩) ?_
    rw [hv]
    show p * ((y 0).val / p) + m = (y 0).val
    have := Nat.div_add_mod (y 0).val p
    omega

end Rules

variable (d : Fin nD) (L : grid1.Coords) (R : ℕ → Ray F) (bm : S65536.Idx → BitVec 32)

/-- The first part of a step: the times, the points, and the first table's bits. -/
theorem wp_step1 (t : Fin k1_t2_loop.trips) (Q : (Σ' (arg19 : BitVec 32) (v97 : FVec F S16 .f32) (v98 : IVec S16 1) (v100 : FVec F S16 .f32) (v102 : FVec F S16 .f32) (v104 : FVec F S16 .f32) (v120 : Vec F S16 .i32) (v133 : IVec S16 32), IVec S16 32) → sProp 𝕄) :
    ((Memref.whole cc1_scratch2 : Memref sig .scVector .vmem S128 .i32).view.loc (V d (cV1 L) (jV1 L)) ↦{fullShare} spread0)
      ⊢ iprop((((Memref.whole cc1_scratch2 : Memref sig .scVector .vmem S128 .i32).view.loc (V d (cV1 L) (jV1 L)) ↦{fullShare} spread0)
          -∗ Q ⟨Scf.iv 0#32 1#32 t, (fun x => time (R (x 0).val) t.val), (fun x => FloatOps.cmpf .olt (time (R (x 0).val) t.val) (far (R (x 0).val))), (fun x => point (R (x 0).val) t.val 0), (fun x => point (R (x 0).val) t.val 1), (fun x => point (R (x 0).val) t.val 2), (fun x => nth spread0 (cell (point (R (x 0).val) t.val 0)).toNat), (fun x => cellLow (point (R (x 0).val) t.val 1)), k1_pay11⟩)
        -∗ wp frame (wpE defs₀ 𝒱₀ (V d (cV1 L) (jV1 L)) none) Set.univ
          (k1_part1 L (Memref.whole main_v0_scv) (Memref.isWhole_whole _) (Memref.whole main_v2_scv) (Memref.isWhole_whole _) (Memref.whole main_c_scv) (Memref.isWhole_whole _) (Memref.whole main_c_0_scv) (Memref.isWhole_whole _) (Memref.whole main_c_1_scv) (Memref.isWhole_whole _) (Memref.whole main_v3_0_scv) (Memref.isWhole_whole _) (Memref.whole main_v3_1_scv) (Memref.isWhole_whole _) (Memref.whole main_v3_2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) cc1_scoped0 cc1_scoped1 cc1_scoped2 cc1_scoped3 cc1_scoped4 cc1_scoped5 cc1_scoped6 cc1_scoped7 (lanes R 0) (lanes R 1) (lanes R 2) (lanes R 3) (lanes R 4) (lanes R 5) (fun x => near (R (x 0).val)) (fun x => far (R (x 0).val)) 0#32 1#32 t) Q) := by
  rw [k1_part1_eq_skeleton]
  unfold k1_part1_skel
  rw [pay9_eq, pay4_eq, pay5_eq, pay6_eq, pay7_eq, pay8_eq, pay10_eq]
  iintro H Hk
  iapply (wp_gather1 𝒱₀ (V d (cV1 L) (jV1 L)) none Set.univ (base := Memref.whole cc1_scratch2) (fun x => (cell (point (R (x 0).val) t.val 0)).toNat) (fun x => rfl) (fun x => cell_lt _) rfl spread0 (Memref.read_access_whole _ _ _)) $$ H
  iintro H %_
  rw [wp_pure]
  imodintro
  iapply Hk $$ H

/-- The second part: the other tables' bits, the bitmap's word, the mark, and the first coordinate's store. -/
theorem wp_step2 (t : Fin k1_t2_loop.trips) (g5 : Buf (Elt F) ((Memref.whole cc1_scratch5 : Memref sig .scVector .vmem S6144 .f32).view.loc (V d (cV1 L) (jV1 L)))) (h5 : ∀ y : S6144.Idx, (y 0).val % 384 < 3 * t.val + 0 → g5 y = xyzFrom bm R (y 0).val)
    (Q : (Σ' (v165 : IVec S16 1) (v168 : IVec S16 32) (v172 : IVec S16 32) (k1_hw12 : k1_chk12 v172), FVec F S16 .f32) → sProp 𝕄) :
    (iprop(((Memref.whole cc1_scratch3 : Memref sig .scVector .vmem S128 .i32).view.loc (V d (cV1 L) (jV1 L)) ↦{fullShare} spread1) ∗ ((Memref.whole cc1_scratch4 : Memref sig .scVector .vmem S128 .i32).view.loc (V d (cV1 L) (jV1 L)) ↦{fullShare} spread2) ∗ ((Memref.whole cc1_scratch0 : Memref sig .scVector .vmem S65536 .i32).view.loc (V d (cV1 L) (jV1 L)) ↦{fullShare} bm) ∗ ((Memref.whole cc1_scratch5 : Memref sig .scVector .vmem S6144 .f32).view.loc (V d (cV1 L) (jV1 L)) ↦{fullShare} g5)) : sProp 𝕄)
      ⊢ iprop(((((Memref.whole cc1_scratch3 : Memref sig .scVector .vmem S128 .i32).view.loc (V d (cV1 L) (jV1 L)) ↦{fullShare} spread1) -∗ ((Memref.whole cc1_scratch4 : Memref sig .scVector .vmem S128 .i32).view.loc (V d (cV1 L) (jV1 L)) ↦{fullShare} spread2) -∗ ((Memref.whole cc1_scratch0 : Memref sig .scVector .vmem S65536 .i32).view.loc (V d (cV1 L) (jV1 L)) ↦{fullShare} bm) -∗
            ∀ g : Buf (Elt F) ((Memref.whole cc1_scratch5 : Memref sig .scVector .vmem S6144 .f32).view.loc (V d (cV1 L) (jV1 L))), ⌜∀ y : S6144.Idx, (y 0).val % 384 < 3 * t.val + 1 → g y = xyzFrom bm R (y 0).val⌝ -∗ ((Memref.whole cc1_scratch5 : Memref sig .scVector .vmem S6144 .f32).view.loc (V d (cV1 L) (jV1 L)) ↦{fullShare} g) -∗
            ∀ hw12 : k1_chk12 (k1_pay18 (k1_pay16 k1_pay3 (Scf.iv 0#32 1#32 t))),
            Q ⟨(fun x => counts bm (R (x 0).val) t.val), k1_pay16 k1_pay3 (Scf.iv 0#32 1#32 t), k1_pay18 (k1_pay16 k1_pay3 (Scf.iv 0#32 1#32 t)), hw12, k1_pay19⟩))
        -∗ wp frame (wpE defs₀ 𝒱₀ (V d (cV1 L) (jV1 L)) none) Set.univ
          (k1_part2 L (Memref.whole main_v0_scv) (Memref.isWhole_whole _) (Memref.whole main_v2_scv) (Memref.isWhole_whole _) (Memref.whole main_c_scv) (Memref.isWhole_whole _) (Memref.whole main_c_0_scv) (Memref.isWhole_whole _) (Memref.whole main_c_1_scv) (Memref.isWhole_whole _) (Memref.whole main_v3_0_scv) (Memref.isWhole_whole _) (Memref.whole main_v3_1_scv) (Memref.isWhole_whole _) (Memref.whole main_v3_2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) cc1_scoped0 cc1_scoped1 cc1_scoped2 cc1_scoped3 cc1_scoped4 cc1_scoped5 cc1_scoped6 cc1_scoped7 k1_pay3 (Scf.iv 0#32 1#32 t) (fun x => FloatOps.cmpf .olt (time (R (x 0).val) t.val) (far (R (x 0).val))) (fun x => point (R (x 0).val) t.val 0) (fun x => point (R (x 0).val) t.val 2) (fun x => nth spread0 (cell (point (R (x 0).val) t.val 0)).toNat) (fun x => cellLow (point (R (x 0).val) t.val 1)) k1_pay11) Q) := by
  have ht : t.val < 128 := t.isLt
  rw [k1_part2_eq_skeleton]
  unfold k1_part2_skel
  iintro ⟨H3, H4, H0, H5⟩ Hk
  iapply (wp_gather1 𝒱₀ (V d (cV1 L) (jV1 L)) none Set.univ (base := Memref.whole cc1_scratch3) (fun x => (cell (point (R (x 0).val) t.val 1)).toNat) (fun x => rfl) (fun x => cell_lt _) rfl spread1 (Memref.read_access_whole _ _ _)) $$ H3
  iintro H3 %_
  iapply (wp_gather1 𝒱₀ (V d (cV1 L) (jV1 L)) none Set.univ (base := Memref.whole cc1_scratch4) (fun x => (cell (point (R (x 0).val) t.val 2)).toNat) (fun x => rfl) (fun x => cell_lt _) rfl spread2 (Memref.read_access_whole _ _ _)) $$ H4
  iintro H4 %_
  iapply (wp_gather1 𝒱₀ (V d (cV1 L) (jV1 L)) none Set.univ (base := Memref.whole cc1_scratch0) (fun x => (IntOp.shrsi .vector (code (R (x 0).val) t.val) 5#32).toNat) (fun x => rfl)
    (fun x => by unfold code; rw [word_toNat (cellNo_lt _ _ _)]; have := cellNo_lt (cell (point (R (x 0).val) t.val 0)) (cell (point (R (x 0).val) t.val 1)) (cell (point (R (x 0).val) t.val 2)); omega) rfl bm (Memref.read_access_whole _ _ _)) $$ H0
  iintro H0 %_
  iapply (wp_check 𝒱₀ (V d (cV1 L) (jV1 L)) none Set.univ (inb_of (place_xyz t) fun x => by have hx : (x 0).val < 16 := (x 0).isLt; omega))
  iapply (wp_put 𝒱₀ (V d (cV1 L) (jV1 L)) none Set.univ (base := Memref.whole cc1_scratch5) (f := g5) (fun g => g) (Memref.set_access_whole _) (Memref.read_access_whole _ _ _) (fun g => Memref.write_access_whole_univ _ _ _ _)
    (xyzFrom bm R) 384 (3 * t.val + 0) (by omega) rfl (place_xyz t) (fun x => (xyzFrom_at bm R (x 0).val t.val ht 0).symm) h5) $$ H5
  iintro %g %hg H5
  iapply (wp_check 𝒱₀ (V d (cV1 L) (jV1 L)) none Set.univ (inb_of (place_xyz1 t) fun x => by have hx : (x 0).val < 16 := (x 0).isLt; omega))
  rw [wp_pure, pay15_eq]
  imodintro
  ihave Hk := Hk $$ H3 H4 H0 %g %hg H5 %_
  iexact Hk

/-- One step of sixteen rays: from the results before step `t` to those before step `t + 1`. -/
theorem wp_step (v2 : BitVec 32) (k : Fin k1_t1_loop.trips) (a18 : BitVec 32) (v37 v44 : FVec F S16 .f32) (v49 : Vec F S16 .f32) (c12 : F .f32)
    (hn : k1_pay37 (lanes R 3) (lanes R 4) (lanes R 5) v37 v44 v49 c12 = fun x => near (R (x 0).val)) (hfr : k1_pay38 (lanes R 3) (lanes R 4) (lanes R 5) v37 v44 v49 c12 = fun x => far (R (x 0).val))
    (t : Fin k1_t2_loop.trips) (g5 : Buf (Elt F) ((Memref.whole cc1_scratch5 : Memref sig .scVector .vmem S6144 .f32).view.loc (V d (cV1 L) (jV1 L)))) (h5 : ∀ y : S6144.Idx, (y 0).val % 384 < 3 * t.val → g5 y = xyzFrom bm R (y 0).val)
    (g6 : Buf (Elt F) ((Memref.whole cc1_scratch6 : Memref sig .scVector .vmem S2048 .f32).view.loc (V d (cV1 L) (jV1 L)))) (h6 : ∀ y : S2048.Idx, (y 0).val % 128 < t.val → g6 y = zFrom bm R (y 0).val)
    (g7 : Buf (Elt F) ((Memref.whole cc1_scratch7 : Memref sig .scVector .vmem S2048 .i32).view.loc (V d (cV1 L) (jV1 L)))) (h7 : ∀ y : S2048.Idx, (y 0).val % 128 < t.val → g7 y = markFrom bm R (y 0).val) (Q : Unit → sProp 𝕄) :
    (iprop(((Memref.whole cc1_scratch0 : Memref sig .scVector .vmem S65536 .i32).view.loc (V d (cV1 L) (jV1 L)) ↦{fullShare} bm) ∗ ((Memref.whole cc1_scratch2 : Memref sig .scVector .vmem S128 .i32).view.loc (V d (cV1 L) (jV1 L)) ↦{fullShare} spread0) ∗ ((Memref.whole cc1_scratch3 : Memref sig .scVector .vmem S128 .i32).view.loc (V d (cV1 L) (jV1 L)) ↦{fullShare} spread1) ∗ ((Memref.whole cc1_scratch4 : Memref sig .scVector .vmem S128 .i32).view.loc (V d (cV1 L) (jV1 L)) ↦{fullShare} spread2) ∗ ((Memref.whole cc1_scratch5 : Memref sig .scVector .vmem S6144 .f32).view.loc (V d (cV1 L) (jV1 L)) ↦{fullShare} g5) ∗ ((Memref.whole cc1_scratch6 : Memref sig .scVector .vmem S2048 .f32).view.loc (V d (cV1 L) (jV1 L)) ↦{fullShare} g6) ∗ ((Memref.whole cc1_scratch7 : Memref sig .scVector .vmem S2048 .i32).view.loc (V d (cV1 L) (jV1 L)) ↦{fullShare} g7)) : sProp 𝕄)
      ⊢ iprop((((Memref.whole cc1_scratch0 : Memref sig .scVector .vmem S65536 .i32).view.loc (V d (cV1 L) (jV1 L)) ↦{fullShare} bm) -∗ ((Memref.whole cc1_scratch2 : Memref sig .scVector .vmem S128 .i32).view.loc (V d (cV1 L) (jV1 L)) ↦{fullShare} spread0) -∗ ((Memref.whole cc1_scratch3 : Memref sig .scVector .vmem S128 .i32).view.loc (V d (cV1 L) (jV1 L)) ↦{fullShare} spread1) -∗ ((Memref.whole cc1_scratch4 : Memref sig .scVector .vmem S128 .i32).view.loc (V d (cV1 L) (jV1 L)) ↦{fullShare} spread2) -∗
            (∃ g : Buf (Elt F) ((Memref.whole cc1_scratch5 : Memref sig .scVector .vmem S6144 .f32).view.loc (V d (cV1 L) (jV1 L))), ⌜∀ y : S6144.Idx, (y 0).val % 384 < 3 * (t.val + 1) → g y = xyzFrom bm R (y 0).val⌝ ∗ ((Memref.whole cc1_scratch5 : Memref sig .scVector .vmem S6144 .f32).view.loc (V d (cV1 L) (jV1 L)) ↦{fullShare} g)) -∗
            (∃ g : Buf (Elt F) ((Memref.whole cc1_scratch6 : Memref sig .scVector .vmem S2048 .f32).view.loc (V d (cV1 L) (jV1 L))), ⌜∀ y : S2048.Idx, (y 0).val % 128 < t.val + 1 → g y = zFrom bm R (y 0).val⌝ ∗ ((Memref.whole cc1_scratch6 : Memref sig .scVector .vmem S2048 .f32).view.loc (V d (cV1 L) (jV1 L)) ↦{fullShare} g)) -∗
            (∃ g : Buf (Elt F) ((Memref.whole cc1_scratch7 : Memref sig .scVector .vmem S2048 .i32).view.loc (V d (cV1 L) (jV1 L))), ⌜∀ y : S2048.Idx, (y 0).val % 128 < t.val + 1 → g y = markFrom bm R (y 0).val⌝ ∗ ((Memref.whole cc1_scratch7 : Memref sig .scVector .vmem S2048 .i32).view.loc (V d (cV1 L) (jV1 L)) ↦{fullShare} g)) -∗ Q ⟨⟩)
        -∗ wp frame (wpE defs₀ 𝒱₀ (V d (cV1 L) (jV1 L)) none) Set.univ
          (k1_t2_body L (Memref.whole main_v0_scv) (Memref.isWhole_whole _) (Memref.whole main_v2_scv) (Memref.isWhole_whole _) (Memref.whole main_c_scv) (Memref.isWhole_whole _) (Memref.whole main_c_0_scv) (Memref.isWhole_whole _) (Memref.whole main_c_1_scv) (Memref.isWhole_whole _) (Memref.whole main_v3_0_scv) (Memref.isWhole_whole _) (Memref.whole main_v3_1_scv) (Memref.isWhole_whole _) (Memref.whole main_v3_2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) cc1_scoped0 cc1_scoped1 cc1_scoped2 cc1_scoped3 cc1_scoped4 cc1_scoped5 cc1_scoped6 cc1_scoped7 v2 k1_pay2 k1_pay3 k a18 (lanes R 0) (lanes R 1) (lanes R 2) (lanes R 3) (lanes R 4) (lanes R 5) v37 v44 v49 c12 t ⟨⟩) Q) := by
  have ht : t.val < 128 := t.isLt
  unfold k1_t2_body
  rw [hn, hfr]
  iintro ⟨H0, H2, H3, H4, H5, H6, H7⟩ Hk
  rw [wp_bind]
  iapply (wp_step1 d L R t) $$ H2
  iintro H2
  rw [wp_bind]
  iapply (wp_step2 d L R bm t g5 h5) $$ [H3 H4 H0 H5]
  · isplitl [H3]; · iexact H3
    isplitl [H4]; · iexact H4
    isplitl [H0]; · iexact H0
    iexact H5
  iintro H3 H4 H0 %g5 %h5 H5 %hw12
  iapply (wp_put 𝒱₀ (V d (cV1 L) (jV1 L)) none Set.univ (base := Memref.whole cc1_scratch5) (f := g5) (fun g => g) (Memref.set_access_whole _) (Memref.read_access_whole _ _ _) (fun g => Memref.write_access_whole_univ _ _ _ _)
    (xyzFrom bm R) 384 (3 * t.val + 1) (by omega) rfl (place_xyz1 t) (fun x => (xyzFrom_at bm R (x 0).val t.val ht 1).symm) h5) $$ H5
  iintro %g5' %h5' H5
  iapply (wp_check 𝒱₀ (V d (cV1 L) (jV1 L)) none Set.univ (inb_of (place_xyz2 t) fun x => by have hx : (x 0).val < 16 := (x 0).isLt; omega))
  iapply (wp_put 𝒱₀ (V d (cV1 L) (jV1 L)) none Set.univ (base := Memref.whole cc1_scratch5) (f := g5') (fun g => g) (Memref.set_access_whole _) (Memref.read_access_whole _ _ _) (fun g => Memref.write_access_whole_univ _ _ _ _)
    (xyzFrom bm R) 384 (3 * t.val + 2) (by omega) rfl (place_xyz2 t) (fun x => (xyzFrom_at bm R (x 0).val t.val ht 2).symm) h5') $$ H5
  iintro %g5'' %h5'' H5
  iapply (wp_check 𝒱₀ (V d (cV1 L) (jV1 L)) none Set.univ ⟨inb_of (place_z t) fun x => by have hx : (x 0).val < 16 := (x 0).isLt; omega, inb_of (place_z t) fun x => by have hx : (x 0).val < 16 := (x 0).isLt; omega⟩)
  iapply (wp_put 𝒱₀ (V d (cV1 L) (jV1 L)) none Set.univ (base := Memref.whole cc1_scratch6) (f := g6) (fun g => g) (Memref.set_access_whole _) (Memref.read_access_whole _ _ _) (fun g => Memref.write_access_whole_univ _ _ _ _)
    (zFrom bm R) 128 t.val ht rfl (place_z t) (fun x => (zFrom_at bm R (x 0).val t.val ht).symm) h6) $$ H6
  iintro %g6' %h6' H6
  iapply (wp_put 𝒱₀ (V d (cV1 L) (jV1 L)) none Set.univ (base := Memref.whole cc1_scratch7) (f := g7) (fun g => g) (Memref.set_access_whole _) (Memref.read_access_whole _ _ _) (fun g => Memref.write_access_whole_univ _ _ _ _)
    (markFrom bm R) 128 t.val ht rfl (place_z t) (fun x => (markFrom_at bm R (x 0).val t.val ht).symm) h7) $$ H7
  iintro %g7' %h7' H7
  rw [wp_pure]
  imodintro
  iapply Hk $$ H0 H2 H3 H4 [H5] [H6] [H7]
  · iexists _; isplitr
    · ipureintro; exact fun y hy => h5'' y (by omega)
    · iexact H5
  · iexists _; isplitr
    · ipureintro; exact h6'
    · iexact H6
  · iexists _; isplitr
    · ipureintro; exact h7'
    · iexact H7

end Step

end Cert.Proof.March
end
-- ==== Proof.Pack.lean ====
/-
  The pack call's tile. A tile of the first call copies its 65536 densities in, turns each run of 32 of them into one word whose
  bit `b` says whether density `b` of the run passes the threshold, and copies its 2048 words out.
-/
module

public import proofs.«01_k».proof.Proof.Common

@[expose] public section

noncomputable section

namespace Cert.Proof.March

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## A word of bits -/

/-- The low `n` of the bits `g`, the one numbered `b` at position `b` of a word. -/
def packW (g : ℕ → BitVec 1) : ℕ → BitVec 32
  | 0 => 0#32
  | n + 1 => IntOp.ori (packW g n) (IntOp.shli .vector ((g n).setWidth 32) (BitVec.ofNat 32 n))

/-- Whether a density passes the threshold. -/
def solid (x : F .f32) : BitVec 1 := FloatOps.cmpf .ogt x (FloatOps.ofBits .f32 0x3C23D70A#32)

/-- The word of the 32 densities from number `a` on. -/
def wordFrom {N : ℕ} [NeZero N] (f : (⟨1, ![N]⟩ : Shape).Idx → F .f32) (a : ℕ) : BitVec 32 := packW (fun b => solid (nth f (a + b))) 32

/-! ## One trip: 32 loads of sixteen densities, one store of sixteen words -/

/-- What a tile gathers `b` densities beyond the lanes' starts `v`. -/
abbrev got (f : S65536.Idx → F .f32) (v : IVec S16 32) (b : ℕ) : Vec F S16 .f32 := fun x => nth f ((v x).toNat + b)

section Parts

local notation "𝕄" => MM F

variable (d : Fin nD) (L : grid0.Coords) (f4 : S65536.Idx → F .f32)

/-- One indexed load of the pack tile: `b` densities beyond the lanes' starts. -/
theorem wp_take {α : Type} {v10 : IVec S16 32} (hv : ∀ x, (v10 x).toNat + 32 ≤ 65536) (b : ℕ) (hb : b < 32) {v : IVec S16 32} (hvb : v = fun x => v10 x + BitVec.ofNat 32 b)
    {P : Prop} {dP : Decidable P} (hPe : (∀ a x, ((![v] : Fin 1 → IVec S16 32) a x).toNat < S65536.size a) = P) {Q : α → sProp 𝕄}
    {h : PLift P → ∀ a x, ((![v] : Fin 1 → IVec S16 32) a x).toNat < S65536.size a} {hl : (Memref.whole cc0_scratch0).view.Loads}
    {k : PLift P → Vec F S16 .f32 → Prog (TpuEff nD τ sig (Elt F) Λ₀ (.scVector ((L 0).castLE hcore0) ((L 1).castLE hsub0))) α} :
    ((Memref.whole cc0_scratch0 : Memref sig .scVector .vmem S65536 .f32).view.loc (V d (cV L) (jV L)) ↦{fullShare} f4)
      ⊢ iprop((((Memref.whole cc0_scratch0 : Memref sig .scVector .vmem S65536 .f32).view.loc (V d (cV L) (jV L)) ↦{fullShare} f4)
          -∗ ∀ hP : P, wp frame (wpE defs₀ 𝒱₀ (V d (cV L) (jV L)) none) Set.univ (k ⟨hP⟩ (got f4 v10 b)) Q)
        -∗ wp frame (wpE defs₀ 𝒱₀ (V d (cV L) (jV L)) none) Set.univ
          (Prog.lift (TpuEff.assume P dP) >>= fun w => SparseCore.vectorLoadIdx (Memref.whole cc0_scratch0) ![v] (h w) hl >>= fun x => k w x) Q) := by
  have hn : ∀ x, (v x).toNat = (v10 x).toNat + b := by
    intro x
    have := hv x
    rw [hvb, BitVec.toNat_add, BitVec.toNat_ofNat]; omega
  exact wp_gather1 𝒱₀ (V d (cV L) (jV L)) none Set.univ (base := Memref.whole cc0_scratch0) (fun x => (v10 x).toNat + b) hn (fun x => by have := hv x; omega) hPe f4 (Memref.read_access_whole _ _ _)

/-- Part 1 of the trip: loads 0 to 3. -/
theorem wp_part1 (t : Fin k0_t1_loop.trips) (v3 v10 : IVec S16 32) (h10 : k0_pay2 v3 0#32 1#32 t = v10) (hv : ∀ x, (v10 x).toNat + 32 ≤ 65536) (Q : (Σ' (arg6 : BitVec 32) (v10 : IVec S16 32) (v38 : IVec S16 32) (v44 : IVec S16 32), IVec S16 32) → sProp 𝕄) :
    ((Memref.whole cc0_scratch0 : Memref sig .scVector .vmem S65536 .f32).view.loc (V d (cV L) (jV L)) ↦{fullShare} f4)
      ⊢ iprop((((Memref.whole cc0_scratch0 : Memref sig .scVector .vmem S65536 .f32).view.loc (V d (cV L) (jV L)) ↦{fullShare} f4)
          -∗ Q ⟨Scf.iv 0#32 1#32 t, v10, k0_pay6 (got f4 v10 0) (got f4 v10 1) (got f4 v10 2), k0_pay8 (got f4 v10 3), k0_pay9⟩)
        -∗ wp frame (wpE defs₀ 𝒱₀ (V d (cV L) (jV L)) none) Set.univ
          (k0_part1 L (Memref.whole main_v1_scv) (Memref.isWhole_whole _) (Memref.whole main_v2_scv) (Memref.isWhole_whole _) (Memref.whole cc0_scratch0) (Memref.isWhole_whole _) (Memref.whole cc0_scratch1) (Memref.isWhole_whole _) cc0_scoped0 cc0_scoped1 v3 0#32 1#32 t) Q) := by
  rw [k0_part1_eq_skeleton]
  unfold k0_part1_skel
  subst h10
  iintro H Hk
  iapply (wp_take d L f4 hv 0 (by decide) rfl rfl) $$ H
  iintro H %_
  iapply (wp_take d L f4 hv 1 (by decide) rfl rfl) $$ H
  iintro H %_
  iapply (wp_take d L f4 hv 2 (by decide) rfl rfl) $$ H
  iintro H %_
  iapply (wp_take d L f4 hv 3 (by decide) rfl rfl) $$ H
  iintro H %_
  rw [wp_pure]
  imodintro
  iapply Hk $$ H

/-- Part 2 of the trip: loads 4 to 8. -/
theorem wp_part2 (v10 v38 v44 v45 : IVec S16 32) (hv : ∀ x, (v10 x).toNat + 32 ≤ 65536) (Q : (Σ' (v83 : IVec S16 32) (v86 : Vec F S16 .f32), F .f32) → sProp 𝕄) :
    ((Memref.whole cc0_scratch0 : Memref sig .scVector .vmem S65536 .f32).view.loc (V d (cV L) (jV L)) ↦{fullShare} f4)
      ⊢ iprop((((Memref.whole cc0_scratch0 : Memref sig .scVector .vmem S65536 .f32).view.loc (V d (cV L) (jV L)) ↦{fullShare} f4)
          -∗ Q ⟨k0_pay14 v38 v44 v45 (got f4 v10 4) (got f4 v10 5) (got f4 v10 6) (got f4 v10 7), got f4 v10 8, FloatOps.ofBits .f32 0x3C23D70A#32⟩)
        -∗ wp frame (wpE defs₀ 𝒱₀ (V d (cV L) (jV L)) none) Set.univ
          (k0_part2 L (Memref.whole main_v1_scv) (Memref.isWhole_whole _) (Memref.whole main_v2_scv) (Memref.isWhole_whole _) (Memref.whole cc0_scratch0) (Memref.isWhole_whole _) (Memref.whole cc0_scratch1) (Memref.isWhole_whole _) cc0_scoped0 cc0_scoped1 v10 v38 v44 v45) Q) := by
  rw [k0_part2_eq_skeleton]
  unfold k0_part2_skel
  iintro H Hk
  iapply (wp_take d L f4 hv 4 (by decide) rfl rfl) $$ H
  iintro H %_
  iapply (wp_take d L f4 hv 5 (by decide) rfl rfl) $$ H
  iintro H %_
  iapply (wp_take d L f4 hv 6 (by decide) rfl rfl) $$ H
  iintro H %_
  iapply (wp_take d L f4 hv 7 (by decide) rfl rfl) $$ H
  iintro H %_
  iapply (wp_take d L f4 hv 8 (by decide) rfl rfl) $$ H
  iintro H %_
  rw [wp_pure]
  imodintro
  iapply Hk $$ H

/-- Part 3 of the trip: loads 9 to 12. -/
theorem wp_part3 (v10 v83 : IVec S16 32) (v86 : Vec F S16 .f32) (c : F .f32) (hv : ∀ x, (v10 x).toNat + 32 ≤ 65536) (Q : (Σ' (v128 : IVec S16 32), BitVec 32) → sProp 𝕄) :
    ((Memref.whole cc0_scratch0 : Memref sig .scVector .vmem S65536 .f32).view.loc (V d (cV L) (jV L)) ↦{fullShare} f4)
      ⊢ iprop((((Memref.whole cc0_scratch0 : Memref sig .scVector .vmem S65536 .f32).view.loc (V d (cV L) (jV L)) ↦{fullShare} f4)
          -∗ Q ⟨k0_pay20 v83 v86 c (got f4 v10 9) (got f4 v10 10) (got f4 v10 11) (got f4 v10 12), 13#32⟩)
        -∗ wp frame (wpE defs₀ 𝒱₀ (V d (cV L) (jV L)) none) Set.univ
          (k0_part3 L (Memref.whole main_v1_scv) (Memref.isWhole_whole _) (Memref.whole main_v2_scv) (Memref.isWhole_whole _) (Memref.whole cc0_scratch0) (Memref.isWhole_whole _) (Memref.whole cc0_scratch1) (Memref.isWhole_whole _) cc0_scoped0 cc0_scoped1 v10 v83 v86 c) Q) := by
  rw [k0_part3_eq_skeleton]
  unfold k0_part3_skel
  iintro H Hk
  iapply (wp_take d L f4 hv 9 (by decide) rfl rfl) $$ H
  iintro H %_
  iapply (wp_take d L f4 hv 10 (by decide) rfl rfl) $$ H
  iintro H %_
  iapply (wp_take d L f4 hv 11 (by decide) rfl rfl) $$ H
  iintro H %_
  iapply (wp_take d L f4 hv 12 (by decide) rfl rfl) $$ H
  iintro H %_
  rw [wp_pure]
  imodintro
  iapply Hk $$ H

/-- Part 4 of the trip: loads 13 to 17. -/
theorem wp_part4 (v10 v128 : IVec S16 32) (hv : ∀ x, (v10 x).toNat + 32 ≤ 65536) (Q : (Σ' (v164 : IVec S16 32), IVec S16 32) → sProp 𝕄) :
    ((Memref.whole cc0_scratch0 : Memref sig .scVector .vmem S65536 .f32).view.loc (V d (cV L) (jV L)) ↦{fullShare} f4)
      ⊢ iprop((((Memref.whole cc0_scratch0 : Memref sig .scVector .vmem S65536 .f32).view.loc (V d (cV L) (jV L)) ↦{fullShare} f4)
          -∗ Q ⟨k0_pay25 v128 (got f4 v10 13) (got f4 v10 14) (got f4 v10 15) (got f4 v10 16), k0_pay27 (got f4 v10 17)⟩)
        -∗ wp frame (wpE defs₀ 𝒱₀ (V d (cV L) (jV L)) none) Set.univ
          (k0_part4 L (Memref.whole main_v1_scv) (Memref.isWhole_whole _) (Memref.whole main_v2_scv) (Memref.isWhole_whole _) (Memref.whole cc0_scratch0) (Memref.isWhole_whole _) (Memref.whole cc0_scratch1) (Memref.isWhole_whole _) cc0_scoped0 cc0_scoped1 v10 v128 13#32) Q) := by
  rw [k0_part4_eq_skeleton]
  unfold k0_part4_skel
  iintro H Hk
  iapply (wp_take d L f4 hv 13 (by decide) rfl rfl) $$ H
  iintro H %_
  iapply (wp_take d L f4 hv 14 (by decide) rfl rfl) $$ H
  iintro H %_
  iapply (wp_take d L f4 hv 15 (by decide) rfl rfl) $$ H
  iintro H %_
  iapply (wp_take d L f4 hv 16 (by decide) rfl rfl) $$ H
  iintro H %_
  iapply (wp_take d L f4 hv 17 (by decide) rfl rfl) $$ H
  iintro H %_
  rw [wp_pure]
  imodintro
  iapply Hk $$ H

/-- Part 5 of the trip: loads 18 to 21 and the check of load 22. -/
theorem wp_part5 (v10 v164 v170 : IVec S16 32) (hv : ∀ x, (v10 x).toNat + 32 ≤ 65536) (Q : (Σ' (v209 : IVec S16 32) (v211 : IVec S16 32), k0_chk23 v211) → sProp 𝕄) :
    ((Memref.whole cc0_scratch0 : Memref sig .scVector .vmem S65536 .f32).view.loc (V d (cV L) (jV L)) ↦{fullShare} f4)
      ⊢ iprop((((Memref.whole cc0_scratch0 : Memref sig .scVector .vmem S65536 .f32).view.loc (V d (cV L) (jV L)) ↦{fullShare} f4)
          -∗ ∀ hP : k0_chk23 (k0_pay33 v10), Q ⟨k0_pay32 v164 v170 (got f4 v10 18) (got f4 v10 19) (got f4 v10 20) (got f4 v10 21), k0_pay33 v10, hP⟩)
        -∗ wp frame (wpE defs₀ 𝒱₀ (V d (cV L) (jV L)) none) Set.univ
          (k0_part5 L (Memref.whole main_v1_scv) (Memref.isWhole_whole _) (Memref.whole main_v2_scv) (Memref.isWhole_whole _) (Memref.whole cc0_scratch0) (Memref.isWhole_whole _) (Memref.whole cc0_scratch1) (Memref.isWhole_whole _) cc0_scoped0 cc0_scoped1 v10 v164 v170) Q) := by
  have hP : k0_chk23 (k0_pay33 v10) := by
    intro a x
    rw [Fin.eq_zero a]
    show (v10 x + BitVec.ofNat 32 22).toNat < 65536
    have := hv x
    rw [BitVec.toNat_add, BitVec.toNat_ofNat]; omega
  rw [k0_part5_eq_skeleton]
  unfold k0_part5_skel
  iintro H Hk
  iapply (wp_take d L f4 hv 18 (by decide) rfl rfl) $$ H
  iintro H %_
  iapply (wp_take d L f4 hv 19 (by decide) rfl rfl) $$ H
  iintro H %_
  iapply (wp_take d L f4 hv 20 (by decide) rfl rfl) $$ H
  iintro H %_
  iapply (wp_take d L f4 hv 21 (by decide) rfl rfl) $$ H
  iintro H %_
  show _ ⊢ wp frame (wpE defs₀ 𝒱₀ (V d (cV L) (jV L)) none) Set.univ (.op (.assume (k0_chk23 (k0_pay33 v10)) _) _) _
  rw [wp_assume_of _ _ _ _ hP]
  change _ ⊢ iprop(|={Set.univ}=> Q ⟨k0_pay32 v164 v170 (got f4 v10 18) (got f4 v10 19) (got f4 v10 20) (got f4 v10 21), k0_pay33 v10, hP⟩)
  iintro ⟨Hk, H⟩
  imodintro
  ihave Hk' := Hk $$ H
  iapply Hk'

/-- Part 6 of the trip: loads 22 to 26. -/
theorem wp_part6 (v10 v209 : IVec S16 32) (hv : ∀ x, (v10 x).toNat + 32 ≤ 65536) (hP : k0_chk23 (k0_pay33 v10)) (Q : (Σ' (v245 : IVec S16 32), IVec S16 32) → sProp 𝕄) :
    ((Memref.whole cc0_scratch0 : Memref sig .scVector .vmem S65536 .f32).view.loc (V d (cV L) (jV L)) ↦{fullShare} f4)
      ⊢ iprop((((Memref.whole cc0_scratch0 : Memref sig .scVector .vmem S65536 .f32).view.loc (V d (cV L) (jV L)) ↦{fullShare} f4)
          -∗ Q ⟨k0_pay37 v209 (got f4 v10 22) (got f4 v10 23) (got f4 v10 24) (got f4 v10 25), k0_pay39 (got f4 v10 26)⟩)
        -∗ wp frame (wpE defs₀ 𝒱₀ (V d (cV L) (jV L)) none) Set.univ
          (k0_part6 L (Memref.whole main_v1_scv) (Memref.isWhole_whole _) (Memref.whole main_v2_scv) (Memref.isWhole_whole _) (Memref.whole cc0_scratch0) (Memref.isWhole_whole _) (Memref.whole cc0_scratch1) (Memref.isWhole_whole _) cc0_scoped0 cc0_scoped1 v10 v209 (k0_pay33 v10) hP) Q) := by
  have hn : ∀ x, (k0_pay33 v10 x).toNat = (v10 x).toNat + 22 := by
    intro x
    have := hv x
    show (v10 x + BitVec.ofNat 32 22).toNat = _
    rw [BitVec.toNat_add, BitVec.toNat_ofNat]; omega
  rw [k0_part6_eq_skeleton]
  unfold k0_part6_skel
  iintro H Hk
  iapply (wp_load1 𝒱₀ (V d (cV L) (jV L)) none Set.univ (base := Memref.whole cc0_scratch0) (hl := View.loads_vmem h_S65536) (fun x => (v10 x).toNat + 22) hn f4 (Memref.read_access_whole _ _ _)) $$ H
  iintro H
  iapply (wp_take d L f4 hv 23 (by decide) rfl rfl) $$ H
  iintro H %_
  iapply (wp_take d L f4 hv 24 (by decide) rfl rfl) $$ H
  iintro H %_
  iapply (wp_take d L f4 hv 25 (by decide) rfl rfl) $$ H
  iintro H %_
  iapply (wp_take d L f4 hv 26 (by decide) rfl rfl) $$ H
  iintro H %_
  rw [wp_pure]
  imodintro
  iapply Hk $$ H

/-- Part 7 of the trip: loads 27 to 31. -/
theorem wp_part7 (v10 v245 v253 : IVec S16 32) (hv : ∀ x, (v10 x).toNat + 32 ≤ 65536) (Q : (Σ' (v290 : IVec S16 32) (v293 : Vec F S16 .f32), FVec F S16 .f32) → sProp 𝕄) :
    ((Memref.whole cc0_scratch0 : Memref sig .scVector .vmem S65536 .f32).view.loc (V d (cV L) (jV L)) ↦{fullShare} f4)
      ⊢ iprop((((Memref.whole cc0_scratch0 : Memref sig .scVector .vmem S65536 .f32).view.loc (V d (cV L) (jV L)) ↦{fullShare} f4)
          -∗ Q ⟨k0_pay44 v245 v253 (got f4 v10 27) (got f4 v10 28) (got f4 v10 29) (got f4 v10 30), got f4 v10 31, k0_pay46⟩)
        -∗ wp frame (wpE defs₀ 𝒱₀ (V d (cV L) (jV L)) none) Set.univ
          (k0_part7 L (Memref.whole main_v1_scv) (Memref.isWhole_whole _) (Memref.whole main_v2_scv) (Memref.isWhole_whole _) (Memref.whole cc0_scratch0) (Memref.isWhole_whole _) (Memref.whole cc0_scratch1) (Memref.isWhole_whole _) cc0_scoped0 cc0_scoped1 v10 v245 v253) Q) := by
  rw [k0_part7_eq_skeleton]
  unfold k0_part7_skel
  iintro H Hk
  iapply (wp_take d L f4 hv 27 (by decide) rfl rfl) $$ H
  iintro H %_
  iapply (wp_take d L f4 hv 28 (by decide) rfl rfl) $$ H
  iintro H %_
  iapply (wp_take d L f4 hv 29 (by decide) rfl rfl) $$ H
  iintro H %_
  iapply (wp_take d L f4 hv 30 (by decide) rfl rfl) $$ H
  iintro H %_
  iapply (wp_take d L f4 hv 31 (by decide) rfl rfl) $$ H
  iintro H %_
  rw [wp_pure]
  imodintro
  iapply Hk $$ H

/-- The lanes' starts of trip `t`. -/
theorem pay2_toNat (t : Fin k0_t1_loop.trips) (x : S16.Idx) :
    (k0_pay2 (iota .scVector S16 32 [0] iota_S16_d0_w32_scVector) 0#32 1#32 t x).toNat = 512 * t.val + 32 * (x 0).val := by
  have ht : t.val < 128 := t.isLt
  have hx : (x 0).val < 16 := (x 0).isLt
  have hi : (iota .scVector S16 32 [0] iota_S16_d0_w32_scVector x).toNat = (x 0).val := by
    show (BitVec.ofNat 32 _).toNat = _
    rw [BitVec.toNat_ofNat]
    simp
    omega
  show (iota .scVector S16 32 [0] iota_S16_d0_w32_scVector x * 32#32 + (0#32 + BitVec.ofNat 32 t.val * 1#32) * 512#32).toNat = _
  simp only [BitVec.toNat_add, BitVec.toNat_mul, BitVec.toNat_ofNat, hi]
  omega

/-- The stored word of a lane is the word of the 32 densities from the lane's start on. -/
theorem pay1_eq (v10 : IVec S16 32) (x : S16.Idx) :
    k0_pay1 (k0_pay44 (k0_pay37 (k0_pay32 (k0_pay25 (k0_pay20 (k0_pay14 (k0_pay6 (got f4 v10 0) (got f4 v10 1) (got f4 v10 2)) (k0_pay8 (got f4 v10 3)) k0_pay9 (got f4 v10 4) (got f4 v10 5) (got f4 v10 6) (got f4 v10 7)) (got f4 v10 8) (FloatOps.ofBits .f32 0x3C23D70A#32) (got f4 v10 9) (got f4 v10 10) (got f4 v10 11) (got f4 v10 12)) (got f4 v10 13) (got f4 v10 14) (got f4 v10 15) (got f4 v10 16))
      (k0_pay27 (got f4 v10 17)) (got f4 v10 18) (got f4 v10 19) (got f4 v10 20) (got f4 v10 21)) (got f4 v10 22) (got f4 v10 23) (got f4 v10 24) (got f4 v10 25)) (k0_pay39 (got f4 v10 26)) (got f4 v10 27) (got f4 v10 28) (got f4 v10 29) (got f4 v10 30)) (got f4 v10 31) k0_pay46 x
      = wordFrom f4 (v10 x).toNat := rfl

/-- The store that ends a trip: words `16 t` to `16 t + 15` of the tile's words are the payload, the others stay. -/
theorem wp_storeWords (t : Fin k0_t1_loop.trips) (f5 : Buf (Elt F) ((Memref.whole cc0_scratch1 : Memref sig .scVector .vmem S2048 .i32).view.loc (V d (cV L) (jV L)))) (v290 : IVec S16 32) (v293 : Vec F S16 .f32)
    (v294 : FVec F S16 .f32) (G : S2048.Idx → BitVec 32) (hw : ∀ x : S16.Idx, ∀ y : S2048.Idx, (y 0).val = 16 * t.val + (x 0).val → k0_pay1 v290 v293 v294 x = G y)
    (h5 : ∀ y : S2048.Idx, (y 0).val < 16 * t.val → f5 y = G y) (Q : Unit → sProp 𝕄) :
    ((Memref.whole cc0_scratch1 : Memref sig .scVector .vmem S2048 .i32).view.loc (V d (cV L) (jV L)) ↦{fullShare} f5)
      ⊢ iprop((∀ g5 : Buf (Elt F) ((Memref.whole cc0_scratch1 : Memref sig .scVector .vmem S2048 .i32).view.loc (V d (cV L) (jV L))), ⌜∀ y : S2048.Idx, (y 0).val < 16 * (t.val + 1) → g5 y = G y⌝
          -∗ ((Memref.whole cc0_scratch1 : Memref sig .scVector .vmem S2048 .i32).view.loc (V d (cV L) (jV L)) ↦{fullShare} g5) -∗ Q ⟨⟩)
        -∗ wp frame (wpE defs₀ 𝒱₀ (V d (cV L) (jV L)) none) Set.univ (do
          let _v302 : Vec F S16 .i32 ← Prog.lift (.load (Memref.whole cc0_scratch1 : Memref sig .scVector .vmem S2048 .i32) (Rect.unit (s := S2048) (k0_off2 t) S16.size (k0_off2_inb t)).toLoadRect (View.loadsAt_vmem h_S16))
          Prog.lift (.store (Memref.whole cc0_scratch1 : Memref sig .scVector .vmem S2048 .i32) (Rect.unit (s := S2048) (k0_off2 t) S16.size (k0_off2_inb t)) (k0_pay1 v290 v293 v294) Finset.univ
            (View.stores_vmem_bits_univ h_S16 rfl) (.inl rfl))
          pure ⟨⟩ : Prog (TpuEff nD τ sig (Elt F) Λ₀ (.scVector ((L 0).castLE hcore0) ((L 1).castLE hsub0))) Unit) Q) := by
  iintro H5 Hk
  sl_exec
  sl_step
  ihave Hk' := Hk $$ %_
  ihave Hk' := Hk' $$ [] H5
  · ipureintro
    intro y hy
    have ho : k0_off2 t 0 = 16 * t.val := by rw [k0_off2_eq]; rfl
    by_cases h : (y 0).val < 16 * t.val
    · refine (View.read_writes_cons_miss_of_axis (Val := Elt F) (Memref.whole cc0_scratch1 : Memref sig .scVector .vmem S2048 .i32).view f5 _ [] y 0 (16 * t.val) 16 ho rfl rfl (.inl h)).trans ?_
      exact h5 y h
    · have hx : (y 0).val - 16 * t.val < 16 := by omega
      refine (View.read_writes_cons_hit_of_coords (Val := Elt F) (Memref.whole cc0_scratch1 : Memref sig .scVector .vmem S2048 .i32).view f5 _ _ [] (fun a => ⟨(y 0).val - 16 * t.val, by rw [Fin.eq_zero a]; exact hx⟩ : S16.Idx) y ?_).trans ?_
      · intro a
        rw [Fin.eq_zero a]
        show (y 0).val = k0_off2 t 0 + 1 * ((y 0).val - 16 * t.val)
        omega
      · exact hw _ y (by show (y 0).val = 16 * t.val + ((y 0).val - 16 * t.val); omega)
  iexact Hk'

/-- One trip: the tile's words below `16 (t + 1)` are right if those below `16 t` were. -/
theorem wp_trip (t : Fin k0_t1_loop.trips) (f5 : Buf (Elt F) ((Memref.whole cc0_scratch1 : Memref sig .scVector .vmem S2048 .i32).view.loc (V d (cV L) (jV L))))
    (h5 : ∀ y : S2048.Idx, (y 0).val < 16 * t.val → f5 y = wordFrom f4 (32 * (y 0).val)) :
    (iprop(((Memref.whole cc0_scratch0 : Memref sig .scVector .vmem S65536 .f32).view.loc (V d (cV L) (jV L)) ↦{fullShare} f4) ∗ ((Memref.whole cc0_scratch1 : Memref sig .scVector .vmem S2048 .i32).view.loc (V d (cV L) (jV L)) ↦{fullShare} f5)) : sProp 𝕄)
      ⊢ wp frame (wpE defs₀ 𝒱₀ (V d (cV L) (jV L)) none) Set.univ (k0_t1_body L (Memref.whole main_v1_scv) (Memref.isWhole_whole _) (Memref.whole main_v2_scv) (Memref.isWhole_whole _) (Memref.whole cc0_scratch0) (Memref.isWhole_whole _) (Memref.whole cc0_scratch1) (Memref.isWhole_whole _) cc0_scoped0 cc0_scoped1 (iota .scVector S16 32 [0] iota_S16_d0_w32_scVector) t ⟨⟩)
          fun _ => iprop(((Memref.whole cc0_scratch0 : Memref sig .scVector .vmem S65536 .f32).view.loc (V d (cV L) (jV L)) ↦{fullShare} f4) ∗ ∃ g5 : Buf (Elt F) ((Memref.whole cc0_scratch1 : Memref sig .scVector .vmem S2048 .i32).view.loc (V d (cV L) (jV L))),
            ⌜∀ y : S2048.Idx, (y 0).val < 16 * (t.val + 1) → g5 y = wordFrom f4 (32 * (y 0).val)⌝ ∗ ((Memref.whole cc0_scratch1 : Memref sig .scVector .vmem S2048 .i32).view.loc (V d (cV L) (jV L)) ↦{fullShare} g5)) := by
  unfold k0_t1_body
  have h2 : ∀ x, (k0_pay2 (iota .scVector S16 32 [0] iota_S16_d0_w32_scVector) 0#32 1#32 t x).toNat = 512 * t.val + 32 * (x 0).val := pay2_toNat t
  generalize h10 : k0_pay2 (iota .scVector S16 32 [0] iota_S16_d0_w32_scVector) 0#32 1#32 t = v10 at h2
  have hv : ∀ x, (v10 x).toNat + 32 ≤ 65536 := by
    intro x
    have ht : t.val < 128 := t.isLt
    have hx : (x 0).val < 16 := (x 0).isLt
    rw [h2]; omega
  iintro ⟨H, H5⟩
  rw [wp_bind]
  iapply (wp_part1 d L f4 t _ v10 h10 hv) $$ H
  iintro H
  rw [wp_bind]
  iapply (wp_part2 d L f4 v10 _ _ _ hv) $$ H
  iintro H
  rw [wp_bind]
  iapply (wp_part3 d L f4 v10 _ _ _ hv) $$ H
  iintro H
  rw [wp_bind]
  iapply (wp_part4 d L f4 v10 _ hv) $$ H
  iintro H
  rw [wp_bind]
  iapply (wp_part5 d L f4 v10 _ _ hv) $$ H
  iintro H %hP
  rw [wp_bind]
  iapply (wp_part6 d L f4 v10 _ hv hP) $$ H
  iintro H
  rw [wp_bind]
  iapply (wp_part7 d L f4 v10 _ _ hv) $$ H
  iintro H
  iapply (wp_storeWords d L t f5 _ _ _ (fun y => wordFrom f4 (32 * (y 0).val)) ?hw h5) $$ H5
  case hw =>
    intro x y hy
    refine (pay1_eq f4 v10 x).trans ?_
    rw [h2, hy]
    congr 1; omega
  iintro %g5 %hg H5
  isplitl [H]; · iexact H
  iexists g5
  isplitr; · ipureintro; exact hg
  iexact H5

end Parts
end Cert.Proof.March
end
-- ==== Proof.PackTile.lean ====
/-
  The pack call's tile as a whole: from its slice of the densities to its slice of the bitmap.
-/
module

public import proofs.«01_k».proof.Proof.Pack

@[expose] public section

noncomputable section

namespace Cert.Proof.March

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The bitmap of the densities: bit `b` of word `w` says whether density `32 w + b` passes the threshold. -/
def bitmap (dens : S2097152.Idx → F .f32) : S65536.Idx → BitVec 32 := fun w => wordFrom dens (32 * (w 0).val)

section Tile

local notation "𝕄" => MM F

abbrev v1Loc (d : Dev nD) : Loc nD τ sig := (SparseCore.T d).loc main_v1
abbrev v2Loc (d : Dev nD) : Loc nD τ sig := (SparseCore.T d).loc main_v2

variable (d : Fin nD) (L : grid0.Coords)

/-- The tile's number: which of the 32 slices it takes. -/
abbrev wid0 (L : grid0.Coords) : ℕ := 2 * (L 1).val + (L 0).val

omit [FloatOps F] in
theorem pts_densSlice (f : Buf (Elt F) (v1Loc d)) :
    (((Memref.whole main_v1_scv : Memref sig .scVector .hbm S2097152 .f32).slice (Rect.unit (s := S2097152) (k0_off1 L) S65536.size (k0_off1_inb L)) (fun _ => rfl)).view.loc (V d (cV L) (jV L)) ↦[((Memref.whole main_v1_scv : Memref sig .scVector .hbm S2097152 .f32).slice (Rect.unit (s := S2097152) (k0_off1 L) S65536.size (k0_off1_inb L)) (fun _ => rfl)).view.set]{fullShare} f : sProp 𝕄) = v1Loc d ↦[span 2097152 (65536 * wid0 L) 65536]{fullShare} f := by
  have e : ((Memref.whole main_v1_scv : Memref sig .scVector .hbm S2097152 .f32).slice (Rect.unit (s := S2097152) (k0_off1 L) S65536.size (k0_off1_inb L)) (fun _ => rfl)).view.set = span 2097152 (65536 * wid0 L) 65536 :=
    (View.set_slice_whole _ _).trans (set_unit_span _ _ ((k0_off1_eq L).trans (by congr 1; unfold wid0; omega)))
  rw [e]

omit [FloatOps F] in
theorem pts_wordSlice (f : Buf (Elt F) (v2Loc d)) :
    (((Memref.whole main_v2_scv : Memref sig .scVector .hbm S65536 .i32).slice (Rect.unit (s := S65536) (k0_off3 L) S2048.size (k0_off3_inb L)) (fun _ => rfl)).view.loc (V d (cV L) (jV L)) ↦[((Memref.whole main_v2_scv : Memref sig .scVector .hbm S65536 .i32).slice (Rect.unit (s := S65536) (k0_off3 L) S2048.size (k0_off3_inb L)) (fun _ => rfl)).view.set]{fullShare} f : sProp 𝕄) = v2Loc d ↦[span 65536 (2048 * wid0 L) 2048]{fullShare} f := by
  have e : ((Memref.whole main_v2_scv : Memref sig .scVector .hbm S65536 .i32).slice (Rect.unit (s := S65536) (k0_off3 L) S2048.size (k0_off3_inb L)) (fun _ => rfl)).view.set = span 65536 (2048 * wid0 L) 2048 :=
    (View.set_slice_whole _ _).trans (set_unit_span _ _ ((k0_off3_eq L).trans (by congr 1; unfold wid0; omega)))
  rw [e]

/-- The pack loop's invariant: before trip `k` the tile's words below `16 k` are right. -/
def packInv (f4 : S65536.Idx → F .f32) (k : ℕ) (_ : Unit) : sProp 𝕄 :=
  iprop(((Memref.whole cc0_scratch0 : Memref sig .scVector .vmem S65536 .f32).view.loc (V d (cV L) (jV L)) ↦{fullShare} f4)
    ∗ ∃ g5 : Buf (Elt F) ((Memref.whole cc0_scratch1 : Memref sig .scVector .vmem S2048 .i32).view.loc (V d (cV L) (jV L))), ⌜∀ y : S2048.Idx, (y 0).val < 16 * k → g5 y = wordFrom f4 (32 * (y 0).val)⌝ ∗ ((Memref.whole cc0_scratch1 : Memref sig .scVector .vmem S2048 .i32).view.loc (V d (cV L) (jV L)) ↦{fullShare} g5))

/-- What the copy in leaves in the tile's density scratch. -/
abbrev tileDens (dens : S2097152.Idx → F .f32) (L : grid0.Coords) : S65536.Idx → F .f32 := fun x => nth dens (65536 * wid0 L + (x 0).val)

omit [FloatOps F] in
/-- The low bits of a word depend on those bits alone. -/
theorem packW_congr (g h : ℕ → BitVec 1) : ∀ n, (∀ b < n, g b = h b) → packW g n = packW h n
  | 0, _ => rfl
  | n + 1, H => by
    unfold packW
    rw [packW_congr g h n fun b hb => H b (by omega), H n (by omega)]

/-- A tile's word is the bitmap's at the tile's slice. -/
theorem wordFrom_tile (dens : S2097152.Idx → F .f32) (L : grid0.Coords) (n : ℕ) (hn : n < 2048) :
    wordFrom (tileDens dens L) (32 * n) = wordFrom dens (65536 * wid0 L + 32 * n) := by
  unfold wordFrom
  refine packW_congr _ _ 32 fun b hb => ?_
  obtain ⟨i, hi, e⟩ := nth_of_lt (N := 65536) (tileDens dens L) (n := 32 * n + b) (by omega)
  rw [e, tileDens, hi, Nat.add_assoc]

/-- The tile of the first call: from its slice of the densities it makes its slice of the bitmap. -/
theorem pack_body (hF : (K (F := F)).Facts) (dens : Buf (Elt F) (v1Loc d)) (O : CellTallies nD τ sig (HIx 2)) (W : Waits sig (HIx 2)) (hO : ∀ g, O g none = 0) :
    (iprop(levAts (K (F := F)).L (K (F := F)).lev ∗ emp
        ∗ ((v1Loc d ↦[span 2097152 (65536 * wid0 L) 65536]{fullShare} dens) ∗ ∃ f : Buf (Elt F) (v2Loc d), v2Loc d ↦[span 65536 (2048 * wid0 L) 2048]{fullShare} f)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ (cc0__pack_body L (Memref.whole main_v1_scv) (Memref.isWhole_whole _) (Memref.whole main_v2_scv) (Memref.isWhole_whole _) (Memref.whole cc0_scratch0) (Memref.isWhole_whole _) (Memref.whole cc0_scratch1) (Memref.isWhole_whole _) cc0_scoped0 cc0_scoped1)
          fun _ => iprop(((v1Loc d ↦[span 2097152 (65536 * wid0 L) 65536]{fullShare} dens) ∗ v2Loc d ↦[span 65536 (2048 * wid0 L) 2048]{fullShare} bitmap dens)
            ∗ scopedBufs (V d (cV L) (jV L)) ∗ scopedSems0 (V d (cV L) (jV L))
            ∗ ∃ W', ⌜∀ p ∈ W', p ∈ W ∨ p.2 = none ∨ p.2 = some (0 : Fin 2)⌝ ∗ owes (V d (cV L) (jV L)) O W') := by
  rw [(K (F := F)).scopedBufs_V hF d (cV L) (jV L), SparseCore.Cfg.scopedSems0_V (Val := Elt F) d (cV L) (jV L),
    ownSems_take d (cV L) (jV L) [.dma cc0_scoped0.sem, .dma cc0_scoped1.sem] (by decide) (by decide),
    ownBufs_take d (cV L) (jV L) [cc0_scratch0, cc0_scratch1] (by decide) (by intro r hr; simp only [List.mem_cons, List.not_mem_nil, or_false] at hr; rcases hr with rfl | rfl <;> rfl)]
  simp only [List.foldr_cons, List.foldr_nil]
  rw [cc0__pack_body_eq_skeleton]
  unfold cc0__pack_body_skel
  iintro ⟨#Hlv, -, ⟨Hx, ⟨%f0, Ho⟩⟩, ⟨⟨%fs, Hs⟩, ⟨%fc, Hc⟩, Hbufs⟩, ⟨Hsem0, Hsem1, Hsems⟩, HO⟩
  ihave Hmw := (show levAts (K (F := F)).L (K (F := F)).lev ⊢ Transfers.MayWaits (V d (cV L) (jV L)) (default : HIx 2) O from
    (K (F := F)).mayWaits_none (thr := (V d (cV L) (jV L))) hO) $$ Hlv
  ihave Hx' := (Entails.of_eq (pts_densSlice (F := F) d L _).symm) $$ Hx
  ihave Ho' := (Entails.of_eq (pts_wordSlice (F := F) d L _).symm) $$ Ho
  ihave Hs' := (Entails.of_eq (show ((V d (cV L) (jV L)).loc cc0_scratch0 ↦{fullShare} fs : sProp 𝕄) = ((Memref.whole cc0_scratch0 : Memref sig .scVector .vmem S65536 .f32).view.loc (V d (cV L) (jV L)) ↦{fullShare} fs) from rfl)) $$ Hs
  ihave Hc' := (Entails.of_eq (show ((V d (cV L) (jV L)).loc cc0_scratch1 ↦{fullShare} fc : sProp 𝕄) = ((Memref.whole cc0_scratch1 : Memref sig .scVector .vmem S2048 .i32).view.loc (V d (cV L) (jV L)) ↦{fullShare} fc) from rfl)) $$ Hc
  sl_exec (disch := exact View.amount_pos _ _ (show 0 < S65536.numel by decide))
  have e4 : View.write (Elt F) (Memref.whole cc0_scratch0 : Memref sig .scVector .vmem S65536 .f32).view fs (pack_body.sl.dma0 d L dens) Finset.univ = tileDens dens L := by
    unfold pack_body.sl.dma0
    refine (View.write_whole_univ _ _ _).trans ?_
    funext x
    have ho : k0_off1 L 0 = 65536 * wid0 L := by rw [k0_off1_eq]; show 131072 * (L 1).val + 65536 * (L 0).val = _; unfold wid0; omega
    show dens ((Rect.unit (s := S2097152) (k0_off1 L) S65536.size (k0_off1_inb L)).emb x) = _
    refine eq_nth dens _ ?_
    show k0_off1 L 0 + 1 * (x 0).val = _
    omega
  rw [e4]
  sl_for (packInv d L (tileDens dens L)) $$ [Hs' Hc']
  case region =>
    intro k _
    unfold packInv
    iintro ⟨Hs, %g5, %hg, Hc⟩
    iapply (wp_trip d L (tileDens dens L) k g5 hg)
    isplitl [Hs]; · iexact Hs
    iexact Hc
  · unfold packInv
    isplitl [Hs']; · iexact Hs'
    iexists fc
    isplitr
    · ipureintro; intro y hy; omega
    · iexact Hc'
  iintro %_ HI
  unfold packInv
  icases HI with ⟨Hs', %g5, %hg, Hc'⟩
  sl_exec (disch := exact View.amount_pos _ _ (show 0 < S2048.numel by decide))
  have e2 : ∀ i ∈ ((Memref.whole main_v2_scv : Memref sig .scVector .hbm S65536 .i32).slice (Rect.unit (s := S65536) (k0_off3 L) S2048.size (k0_off3_inb L)) (fun _ => rfl)).view.set, ((Memref.whole main_v2_scv : Memref sig .scVector .hbm S65536 .i32).slice (Rect.unit (s := S65536) (k0_off3 L) S2048.size (k0_off3_inb L)) (fun _ => rfl)).view.writes (Elt F) f0 [⟨Rect.whole (Rect.unit (s := S65536) (k0_off3 L) S2048.size (k0_off3_inb L)).shape, pack_body.sl.dma0_1 d L g5⟩] i = bitmap dens i := by
    intro i hi
    obtain ⟨x, -, rfl⟩ := Finset.mem_map.mp hi
    refine (writes_whole_emb (Elt F) ((Memref.whole main_v2_scv : Memref sig .scVector .hbm S65536 .i32).slice (Rect.unit (s := S65536) (k0_off3 L) S2048.size (k0_off3_inb L)) (fun _ => rfl)).view f0 _ x).trans ?_
    show g5 x = bitmap dens _
    have hx : (x 0).val < 2048 := (x 0).isLt
    rw [hg x (by show (x 0).val < 16 * 128; omega), wordFrom_tile dens L _ hx]
    have ho : k0_off3 L 0 = 2048 * wid0 L := by rw [k0_off3_eq]; show 4096 * (L 1).val + 2048 * (L 0).val = _; unfold wid0; omega
    show _ = wordFrom dens (32 * (k0_off3 L 0 + 1 * (x 0).val))
    congr 1
    omega
  sl_step
  isplitl [Hx' Ho']
  · isplitl [Hx']
    · iapply (Entails.of_eq (pts_densSlice (F := F) d L _)); iexact Hx'
    · iapply (Entails.of_eq (pts_wordSlice (F := F) d L _))
      iapply (Entails.of_eq (pointsTo_congr e2))
      iexact Ho'
  isplitl [Hs' Hc' Hbufs]
  · isplitl [Hs']; · iexists _; iexact Hs'
    isplitl [Hc']; · iexists _; iexact Hc'
    iexact Hbufs
  isplitl [Hsem0 Hsem1 Hsems]
  · isplitl [Hsem0]; · iexact Hsem0
    isplitl [Hsem1]; · iexact Hsem1
    iexact Hsems
  iexists _; isplitr
  swap; · iexact HO
  ipureintro; intro p hp
  simp only [Finset.mem_insert] at hp
  rcases hp with rfl | rfl | hp
  · exact .inr (.inl rfl)
  · exact .inr (.inl rfl)
  · exact .inl hp

end Tile

end Cert.Proof.March

end
-- ==== Proof.MarchChunk.lean ====
/-
  One chunk of the march call's tile: sixteen rays read, marched through 128 steps, and their results copied out.
-/
module

public import proofs.«01_k».proof.Proof.MarchStep
public import proofs.«01_k».proof.Proof.PackTile

@[expose] public section

noncomputable section

namespace Cert.Proof.March

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

section Chunk

local notation "𝕄" => MM F

abbrev v0Loc (d : Dev nD) : Loc nD τ sig := (SparseCore.T d).loc main_v0
abbrev xyzLoc (d : Dev nD) : Loc nD τ sig := (SparseCore.T d).loc main_v3_0
abbrev zLoc (d : Dev nD) : Loc nD τ sig := (SparseCore.T d).loc main_v3_1
abbrev markLoc (d : Dev nD) : Loc nD τ sig := (SparseCore.T d).loc main_v3_2

/-- The tile's number: which 512 rays it takes. -/
abbrev wid1 (L : grid1.Coords) : ℕ := 2 * (L 1).val + (L 0).val

/-- The coordinates that the march leaves. -/
def xyzVal (rays : S98304.Idx → F .f32) (bm : S65536.Idx → BitVec 32) : S6291456.Idx → F .f32 := fun i => xyzFrom bm (rayOf rays) (i 0).val

/-- The times that it leaves. -/
def zVal (rays : S98304.Idx → F .f32) (bm : S65536.Idx → BitVec 32) : S2097152.Idx → F .f32 := fun i => zFrom bm (rayOf rays) (i 0).val

/-- The marks that it leaves. -/
def markVal (rays : S98304.Idx → F .f32) (bm : S65536.Idx → BitVec 32) : S2097152.Idx → BitVec 32 := fun i => markFrom bm (rayOf rays) (i 0).val

/-- The rays of a tile, as its scratch holds them. -/
abbrev tileRays (rays : S98304.Idx → F .f32) (L : grid1.Coords) : S3072.Idx → F .f32 := fun x => nth rays (3072 * wid1 L + (x 0).val)

omit [FloatOps F] in
/-- A tile's ray is the array's. -/
theorem rayOf_tile (rays : S98304.Idx → F .f32) (L : grid1.Coords) (r : ℕ) (hr : r < 512) : rayOf (tileRays rays L) r = rayOf rays (512 * wid1 L + r) := by
  funext j
  have hj : j.val < 6 := j.isLt
  obtain ⟨i, hi, e⟩ := nth_of_lt (N := 3072) (tileRays rays L) (n := 6 * r + j.val) (by omega)
  show nth (tileRays rays L) (6 * r + j.val) = nth rays (6 * (512 * wid1 L + r) + j.val)
  rw [e, tileRays, hi]
  congr 1; omega

variable (d : Fin nD) (L : grid1.Coords)

omit [FloatOps F] in
/-- A chunk's piece of the coordinates. -/
theorem pts_xyz (t : Fin k1_t1_loop.trips) (f : Buf (Elt F) (xyzLoc d)) :
    (((Memref.whole main_v3_0_scv : Memref sig .scVector .hbm S6291456 .f32).slice (Rect.unit (s := S6291456) (k1_off2 L t) S6144.size (k1_off2_inb L t)) (fun _ => rfl)).view.loc (V d (cV1 L) (jV1 L)) ↦[((Memref.whole main_v3_0_scv : Memref sig .scVector .hbm S6291456 .f32).slice (Rect.unit (s := S6291456) (k1_off2 L t) S6144.size (k1_off2_inb L t)) (fun _ => rfl)).view.set]{fullShare} f : sProp 𝕄) = xyzLoc d ↦[span 6291456 (6144 * (32 * wid1 L + t.val)) 6144]{fullShare} f := by
  have e : ((Memref.whole main_v3_0_scv : Memref sig .scVector .hbm S6291456 .f32).slice (Rect.unit (s := S6291456) (k1_off2 L t) S6144.size (k1_off2_inb L t)) (fun _ => rfl)).view.set = span 6291456 (6144 * (32 * wid1 L + t.val)) 6144 :=
    (View.set_slice_whole _ _).trans (set_unit_span _ _ ((k1_off2_eq L t).trans (by congr 1; unfold wid1; omega)))
  rw [e]

omit [FloatOps F] in
/-- A chunk's piece of the times. -/
theorem pts_z (t : Fin k1_t1_loop.trips) (f : Buf (Elt F) (zLoc d)) :
    (((Memref.whole main_v3_1_scv : Memref sig .scVector .hbm S2097152 .f32).slice (Rect.unit (s := S2097152) (k1_off3 L t) S2048.size (k1_off3_inb L t)) (fun _ => rfl)).view.loc (V d (cV1 L) (jV1 L)) ↦[((Memref.whole main_v3_1_scv : Memref sig .scVector .hbm S2097152 .f32).slice (Rect.unit (s := S2097152) (k1_off3 L t) S2048.size (k1_off3_inb L t)) (fun _ => rfl)).view.set]{fullShare} f : sProp 𝕄) = zLoc d ↦[span 2097152 (2048 * (32 * wid1 L + t.val)) 2048]{fullShare} f := by
  have e : ((Memref.whole main_v3_1_scv : Memref sig .scVector .hbm S2097152 .f32).slice (Rect.unit (s := S2097152) (k1_off3 L t) S2048.size (k1_off3_inb L t)) (fun _ => rfl)).view.set = span 2097152 (2048 * (32 * wid1 L + t.val)) 2048 :=
    (View.set_slice_whole _ _).trans (set_unit_span _ _ ((k1_off3_eq L t).trans (by congr 1; unfold wid1; omega)))
  rw [e]

omit [FloatOps F] in
/-- A chunk's piece of the marks. -/
theorem pts_mark (t : Fin k1_t1_loop.trips) (f : Buf (Elt F) (markLoc d)) :
    (((Memref.whole main_v3_2_scv : Memref sig .scVector .hbm S2097152 .i32).slice (Rect.unit (s := S2097152) (k1_off3 L t) S2048.size (k1_off3_inb L t)) (fun _ => rfl)).view.loc (V d (cV1 L) (jV1 L)) ↦[((Memref.whole main_v3_2_scv : Memref sig .scVector .hbm S2097152 .i32).slice (Rect.unit (s := S2097152) (k1_off3 L t) S2048.size (k1_off3_inb L t)) (fun _ => rfl)).view.set]{fullShare} f : sProp 𝕄) = markLoc d ↦[span 2097152 (2048 * (32 * wid1 L + t.val)) 2048]{fullShare} f := by
  have e : ((Memref.whole main_v3_2_scv : Memref sig .scVector .hbm S2097152 .i32).slice (Rect.unit (s := S2097152) (k1_off3 L t) S2048.size (k1_off3_inb L t)) (fun _ => rfl)).view.set = span 2097152 (2048 * (32 * wid1 L + t.val)) 2048 :=
    (View.set_slice_whole _ _).trans (set_unit_span _ _ ((k1_off3_eq L t).trans (by congr 1; unfold wid1; omega)))
  rw [e]

omit [FloatOps F] in
/-- The lanes' places in the rays' scratch at chunk `t`. -/
theorem place_ray0 (t : Fin k1_t1_loop.trips) (x : S16.Idx) : (k1_pay20 k1_pay1 0#32 1#32 t x).toNat = 6 * (16 * t.val + (x 0).val) + (0 : Fin 6).val := by
  have ht : t.val < 32 := t.isLt
  have hx : (x 0).val < 16 := (x 0).isLt
  have hi := iota_lane x
  show (iota .scVector S16 32 [0] iota_S16_d0_w32_scVector x * 6#32 + (0#32 + BitVec.ofNat 32 t.val * 1#32) * 96#32).toNat = _ + 0
  simp only [BitVec.toNat_add, BitVec.toNat_mul, BitVec.toNat_ofNat]
  omega

omit [FloatOps F] in
theorem place_ray1 (t : Fin k1_t1_loop.trips) (x : S16.Idx) : (k1_pay21 (k1_pay20 k1_pay1 0#32 1#32 t) x).toNat = 6 * (16 * t.val + (x 0).val) + (1 : Fin 6).val := by
  have ht : t.val < 32 := t.isLt
  have hx : (x 0).val < 16 := (x 0).isLt
  have h0 : (k1_pay20 k1_pay1 0#32 1#32 t x).toNat = 6 * (16 * t.val + (x 0).val) + 0 := place_ray0 t x
  show (k1_pay20 k1_pay1 0#32 1#32 t x + 1#32).toNat = _ + 1
  rw [BitVec.toNat_add, h0, BitVec.toNat_ofNat]
  omega

omit [FloatOps F] in
theorem place_ray2 (t : Fin k1_t1_loop.trips) (x : S16.Idx) : (k1_pay22 (k1_pay20 k1_pay1 0#32 1#32 t) x).toNat = 6 * (16 * t.val + (x 0).val) + (2 : Fin 6).val := by
  have ht : t.val < 32 := t.isLt
  have hx : (x 0).val < 16 := (x 0).isLt
  have h0 : (k1_pay20 k1_pay1 0#32 1#32 t x).toNat = 6 * (16 * t.val + (x 0).val) + 0 := place_ray0 t x
  show (k1_pay20 k1_pay1 0#32 1#32 t x + 2#32).toNat = _ + 2
  rw [BitVec.toNat_add, h0, BitVec.toNat_ofNat]
  omega

omit [FloatOps F] in
theorem place_ray3 (t : Fin k1_t1_loop.trips) (x : S16.Idx) : (k1_pay23 (k1_pay20 k1_pay1 0#32 1#32 t) x).toNat = 6 * (16 * t.val + (x 0).val) + (3 : Fin 6).val := by
  have ht : t.val < 32 := t.isLt
  have hx : (x 0).val < 16 := (x 0).isLt
  have h0 : (k1_pay20 k1_pay1 0#32 1#32 t x).toNat = 6 * (16 * t.val + (x 0).val) + 0 := place_ray0 t x
  show (k1_pay20 k1_pay1 0#32 1#32 t x + 3#32).toNat = _ + 3
  rw [BitVec.toNat_add, h0, BitVec.toNat_ofNat]
  omega

omit [FloatOps F] in
theorem place_ray4 (t : Fin k1_t1_loop.trips) (x : S16.Idx) : (k1_pay24 (k1_pay20 k1_pay1 0#32 1#32 t) x).toNat = 6 * (16 * t.val + (x 0).val) + (4 : Fin 6).val := by
  have ht : t.val < 32 := t.isLt
  have hx : (x 0).val < 16 := (x 0).isLt
  have h0 : (k1_pay20 k1_pay1 0#32 1#32 t x).toNat = 6 * (16 * t.val + (x 0).val) + 0 := place_ray0 t x
  show (k1_pay20 k1_pay1 0#32 1#32 t x + 4#32).toNat = _ + 4
  rw [BitVec.toNat_add, h0, BitVec.toNat_ofNat]
  omega

omit [FloatOps F] in
theorem place_ray5 (t : Fin k1_t1_loop.trips) (x : S16.Idx) : (k1_pay25 (k1_pay20 k1_pay1 0#32 1#32 t) x).toNat = 6 * (16 * t.val + (x 0).val) + (5 : Fin 6).val := by
  have ht : t.val < 32 := t.isLt
  have hx : (x 0).val < 16 := (x 0).isLt
  have h0 : (k1_pay20 k1_pay1 0#32 1#32 t x).toNat = 6 * (16 * t.val + (x 0).val) + 0 := place_ray0 t x
  show (k1_pay20 k1_pay1 0#32 1#32 t x + 5#32).toNat = _ + 5
  rw [BitVec.toNat_add, h0, BitVec.toNat_ofNat]
  omega

/-- The rays of chunk `t` of a tile. -/
abbrev chunkRays (rl : S3072.Idx → F .f32) (t : ℕ) : ℕ → Ray F := fun r => rayOf rl (16 * t + r)

/-- The head of a chunk: its rays' components are read. -/
theorem wp_rays (rl : S3072.Idx → F .f32) (t : Fin k1_t1_loop.trips) (Q : (Σ' (arg18 : BitVec 32) (v15 : Vec F S16 .f32) (v18 : Vec F S16 .f32) (v21 : Vec F S16 .f32) (v24 : Vec F S16 .f32) (v27 : Vec F S16 .f32) (v30 : Vec F S16 .f32) (v37 : FVec F S16 .f32) (v44 : FVec F S16 .f32) (v49 : Vec F S16 .f32), F .f32) → sProp 𝕄) :
    ((Memref.whole cc1_scratch1 : Memref sig .scVector .vmem S3072 .f32).view.loc (V d (cV1 L) (jV1 L)) ↦{fullShare} rl)
      ⊢ iprop((((Memref.whole cc1_scratch1 : Memref sig .scVector .vmem S3072 .f32).view.loc (V d (cV1 L) (jV1 L)) ↦{fullShare} rl)
          -∗ Q ⟨Scf.iv 0#32 1#32 t, lanes (chunkRays rl t.val) 0, lanes (chunkRays rl t.val) 1, lanes (chunkRays rl t.val) 2, lanes (chunkRays rl t.val) 3, lanes (chunkRays rl t.val) 4, lanes (chunkRays rl t.val) 5,
              k1_pay26 (lanes (chunkRays rl t.val) 0), k1_pay27 (lanes (chunkRays rl t.val) 1), k1_pay28 (lanes (chunkRays rl t.val) 2), Scalar.ofBits .f32 0x3F800000#32⟩)
        -∗ wp frame (wpE defs₀ 𝒱₀ (V d (cV1 L) (jV1 L)) none) Set.univ
          (k1_part3 L (Memref.whole main_v0_scv) (Memref.isWhole_whole _) (Memref.whole main_v2_scv) (Memref.isWhole_whole _) (Memref.whole main_c_scv) (Memref.isWhole_whole _) (Memref.whole main_c_0_scv) (Memref.isWhole_whole _) (Memref.whole main_c_1_scv) (Memref.isWhole_whole _) (Memref.whole main_v3_0_scv) (Memref.isWhole_whole _) (Memref.whole main_v3_1_scv) (Memref.isWhole_whole _) (Memref.whole main_v3_2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) cc1_scoped0 cc1_scoped1 cc1_scoped2 cc1_scoped3 cc1_scoped4 cc1_scoped5 cc1_scoped6 cc1_scoped7 k1_pay1 0#32 1#32 t) Q) := by
  have ht : t.val < 32 := t.isLt
  rw [k1_part3_eq_skeleton]
  unfold k1_part3_skel
  iintro H Hk
  iapply (wp_gather1 𝒱₀ (V d (cV1 L) (jV1 L)) none Set.univ (base := Memref.whole cc1_scratch1) (fun x => 6 * (16 * t.val + (x 0).val) + (0 : Fin 6).val) (place_ray0 t) (fun x => by have hx : (x 0).val < 16 := (x 0).isLt; have hj : (0 : Fin 6).val = 0 := rfl; omega) rfl rl (Memref.read_access_whole _ _ _)) $$ H
  iintro H %_
  iapply (wp_gather1 𝒱₀ (V d (cV1 L) (jV1 L)) none Set.univ (base := Memref.whole cc1_scratch1) (fun x => 6 * (16 * t.val + (x 0).val) + (1 : Fin 6).val) (place_ray1 t) (fun x => by have hx : (x 0).val < 16 := (x 0).isLt; have hj : (1 : Fin 6).val = 1 := rfl; omega) rfl rl (Memref.read_access_whole _ _ _)) $$ H
  iintro H %_
  iapply (wp_gather1 𝒱₀ (V d (cV1 L) (jV1 L)) none Set.univ (base := Memref.whole cc1_scratch1) (fun x => 6 * (16 * t.val + (x 0).val) + (2 : Fin 6).val) (place_ray2 t) (fun x => by have hx : (x 0).val < 16 := (x 0).isLt; have hj : (2 : Fin 6).val = 2 := rfl; omega) rfl rl (Memref.read_access_whole _ _ _)) $$ H
  iintro H %_
  iapply (wp_gather1 𝒱₀ (V d (cV1 L) (jV1 L)) none Set.univ (base := Memref.whole cc1_scratch1) (fun x => 6 * (16 * t.val + (x 0).val) + (3 : Fin 6).val) (place_ray3 t) (fun x => by have hx : (x 0).val < 16 := (x 0).isLt; have hj : (3 : Fin 6).val = 3 := rfl; omega) rfl rl (Memref.read_access_whole _ _ _)) $$ H
  iintro H %_
  iapply (wp_gather1 𝒱₀ (V d (cV1 L) (jV1 L)) none Set.univ (base := Memref.whole cc1_scratch1) (fun x => 6 * (16 * t.val + (x 0).val) + (4 : Fin 6).val) (place_ray4 t) (fun x => by have hx : (x 0).val < 16 := (x 0).isLt; have hj : (4 : Fin 6).val = 4 := rfl; omega) rfl rl (Memref.read_access_whole _ _ _)) $$ H
  iintro H %_
  iapply (wp_gather1 𝒱₀ (V d (cV1 L) (jV1 L)) none Set.univ (base := Memref.whole cc1_scratch1) (fun x => 6 * (16 * t.val + (x 0).val) + (5 : Fin 6).val) (place_ray5 t) (fun x => by have hx : (x 0).val < 16 := (x 0).isLt; have hj : (5 : Fin 6).val = 5 := rfl; omega) rfl rl (Memref.read_access_whole _ _ _)) $$ H
  iintro H %_
  rw [wp_pure]
  imodintro
  iapply Hk $$ H

theorem near_eq (R : ℕ → Ray F) : k1_pay37 (lanes R 3) (lanes R 4) (lanes R 5) (k1_pay26 (lanes R 0)) (k1_pay27 (lanes R 1)) (k1_pay28 (lanes R 2)) (Scalar.ofBits .f32 0x3F800000#32) = fun x => near (R (x 0).val) := rfl

theorem far_eq (R : ℕ → Ray F) : k1_pay38 (lanes R 3) (lanes R 4) (lanes R 5) (k1_pay26 (lanes R 0)) (k1_pay27 (lanes R 1)) (k1_pay28 (lanes R 2)) (Scalar.ofBits .f32 0x3F800000#32) = fun x => far (R (x 0).val) := rfl

/-- The steps' invariant: before step `k` the results of the steps before it are right. -/
def stepInv (R : ℕ → Ray F) (bm : S65536.Idx → BitVec 32) (k : ℕ) (_ : Unit) : sProp 𝕄 :=
  iprop(((Memref.whole cc1_scratch0 : Memref sig .scVector .vmem S65536 .i32).view.loc (V d (cV1 L) (jV1 L)) ↦{fullShare} bm) ∗ ((Memref.whole cc1_scratch2 : Memref sig .scVector .vmem S128 .i32).view.loc (V d (cV1 L) (jV1 L)) ↦{fullShare} spread0) ∗ ((Memref.whole cc1_scratch3 : Memref sig .scVector .vmem S128 .i32).view.loc (V d (cV1 L) (jV1 L)) ↦{fullShare} spread1) ∗ ((Memref.whole cc1_scratch4 : Memref sig .scVector .vmem S128 .i32).view.loc (V d (cV1 L) (jV1 L)) ↦{fullShare} spread2) ∗ (∃ g : Buf (Elt F) ((Memref.whole cc1_scratch5 : Memref sig .scVector .vmem S6144 .f32).view.loc (V d (cV1 L) (jV1 L))), ⌜∀ y : S6144.Idx, (y 0).val % 384 < 3 * k → g y = xyzFrom bm R (y 0).val⌝ ∗ ((Memref.whole cc1_scratch5 : Memref sig .scVector .vmem S6144 .f32).view.loc (V d (cV1 L) (jV1 L)) ↦{fullShare} g)) ∗ (∃ g : Buf (Elt F) ((Memref.whole cc1_scratch6 : Memref sig .scVector .vmem S2048 .f32).view.loc (V d (cV1 L) (jV1 L))), ⌜∀ y : S2048.Idx, (y 0).val % 128 < k → g y = zFrom bm R (y 0).val⌝ ∗ ((Memref.whole cc1_scratch6 : Memref sig .scVector .vmem S2048 .f32).view.loc (V d (cV1 L) (jV1 L)) ↦{fullShare} g)) ∗ (∃ g : Buf (Elt F) ((Memref.whole cc1_scratch7 : Memref sig .scVector .vmem S2048 .i32).view.loc (V d (cV1 L) (jV1 L))), ⌜∀ y : S2048.Idx, (y 0).val % 128 < k → g y = markFrom bm R (y 0).val⌝ ∗ ((Memref.whole cc1_scratch7 : Memref sig .scVector .vmem S2048 .i32).view.loc (V d (cV1 L) (jV1 L)) ↦{fullShare} g)))

/-- What a tile holds between two chunks, the outputs apart. -/
def tileState (bm : S65536.Idx → BitVec 32) (rl : S3072.Idx → F .f32) (O : CellTallies nD τ sig (HIx 2)) (W : Waits sig (HIx 2)) : sProp 𝕄 :=
  iprop(((Memref.whole cc1_scratch0 : Memref sig .scVector .vmem S65536 .i32).view.loc (V d (cV1 L) (jV1 L)) ↦{fullShare} bm) ∗ ((Memref.whole cc1_scratch1 : Memref sig .scVector .vmem S3072 .f32).view.loc (V d (cV1 L) (jV1 L)) ↦{fullShare} rl) ∗ ((Memref.whole cc1_scratch2 : Memref sig .scVector .vmem S128 .i32).view.loc (V d (cV1 L) (jV1 L)) ↦{fullShare} spread0) ∗ ((Memref.whole cc1_scratch3 : Memref sig .scVector .vmem S128 .i32).view.loc (V d (cV1 L) (jV1 L)) ↦{fullShare} spread1) ∗ ((Memref.whole cc1_scratch4 : Memref sig .scVector .vmem S128 .i32).view.loc (V d (cV1 L) (jV1 L)) ↦{fullShare} spread2) ∗ (∃ g : Buf (Elt F) ((Memref.whole cc1_scratch5 : Memref sig .scVector .vmem S6144 .f32).view.loc (V d (cV1 L) (jV1 L))), ((Memref.whole cc1_scratch5 : Memref sig .scVector .vmem S6144 .f32).view.loc (V d (cV1 L) (jV1 L)) ↦{fullShare} g)) ∗ (∃ g : Buf (Elt F) ((Memref.whole cc1_scratch6 : Memref sig .scVector .vmem S2048 .f32).view.loc (V d (cV1 L) (jV1 L))), ((Memref.whole cc1_scratch6 : Memref sig .scVector .vmem S2048 .f32).view.loc (V d (cV1 L) (jV1 L)) ↦{fullShare} g)) ∗ (∃ g : Buf (Elt F) ((Memref.whole cc1_scratch7 : Memref sig .scVector .vmem S2048 .i32).view.loc (V d (cV1 L) (jV1 L))), ((Memref.whole cc1_scratch7 : Memref sig .scVector .vmem S2048 .i32).view.loc (V d (cV1 L) (jV1 L)) ↦{fullShare} g)) ∗ semVal (((V d (cV1 L) (jV1 L)), .dma cc1_scoped5.sem) : GSem nD τ sig) 0 ∗ semVal (((V d (cV1 L) (jV1 L)), .dma cc1_scoped6.sem) : GSem nD τ sig) 0 ∗ semVal (((V d (cV1 L) (jV1 L)), .dma cc1_scoped7.sem) : GSem nD τ sig) 0 ∗ (∃ W', ⌜∀ p ∈ W', p ∈ W ∨ p.2 = none ∨ p.2 = some (1 : Fin 2)⌝ ∗ owes (V d (cV1 L) (jV1 L)) O W'))

/-- One chunk of a tile: the chunk's pieces of the three results are written. -/
theorem wp_chunk (rays : S98304.Idx → F .f32) (bm : S65536.Idx → BitVec 32) (O : CellTallies nD τ sig (HIx 2)) (W : Waits sig (HIx 2)) (hO : ∀ g, O g none = 0) (v2 : BitVec 32) (t : Fin k1_t1_loop.trips) :
    (iprop(levAts (K (F := F)).L (K (F := F)).lev ∗ tileState d L bm (tileRays rays L) O W
        ∗ (∃ f : Buf (Elt F) (xyzLoc d), xyzLoc d ↦[span 6291456 (6144 * (32 * wid1 L + t.val)) 6144]{fullShare} f)
        ∗ (∃ f : Buf (Elt F) (zLoc d), zLoc d ↦[span 2097152 (2048 * (32 * wid1 L + t.val)) 2048]{fullShare} f)
        ∗ (∃ f : Buf (Elt F) (markLoc d), markLoc d ↦[span 2097152 (2048 * (32 * wid1 L + t.val)) 2048]{fullShare} f)) : sProp 𝕄)
      ⊢ wp frame (wpE defs₀ 𝒱₀ (V d (cV1 L) (jV1 L)) none) Set.univ (k1_t1_body L (Memref.whole main_v0_scv) (Memref.isWhole_whole _) (Memref.whole main_v2_scv) (Memref.isWhole_whole _) (Memref.whole main_c_scv) (Memref.isWhole_whole _) (Memref.whole main_c_0_scv) (Memref.isWhole_whole _) (Memref.whole main_c_1_scv) (Memref.isWhole_whole _) (Memref.whole main_v3_0_scv) (Memref.isWhole_whole _) (Memref.whole main_v3_1_scv) (Memref.isWhole_whole _) (Memref.whole main_v3_2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) cc1_scoped0 cc1_scoped1 cc1_scoped2 cc1_scoped3 cc1_scoped4 cc1_scoped5 cc1_scoped6 cc1_scoped7 v2 t ⟨⟩)
          fun _ => iprop(tileState d L bm (tileRays rays L) O W
            ∗ (xyzLoc d ↦[span 6291456 (6144 * (32 * wid1 L + t.val)) 6144]{fullShare} xyzVal rays bm)
            ∗ (zLoc d ↦[span 2097152 (2048 * (32 * wid1 L + t.val)) 2048]{fullShare} zVal rays bm)
            ∗ (markLoc d ↦[span 2097152 (2048 * (32 * wid1 L + t.val)) 2048]{fullShare} markVal rays bm)) := by
  have ht : t.val < 32 := t.isLt
  unfold k1_t1_body
  rw [k1_part4_eq_skeleton]
  unfold k1_part4_skel tileState
  iintro ⟨#Hlv, ⟨H0, H1, H2, H3, H4, ⟨%g5, H5⟩, ⟨%g6, H6⟩, ⟨%g7, H7⟩, Hs5, Hs6, Hs7, ⟨%W', %hW', HO⟩⟩, ⟨%fx, Hx⟩, ⟨%fz, Hz⟩, ⟨%fm, Hm⟩⟩
  ihave Hmw := (show levAts (K (F := F)).L (K (F := F)).lev ⊢ Transfers.MayWaits (V d (cV1 L) (jV1 L)) (default : HIx 2) O from
    (K (F := F)).mayWaits_none (thr := (V d (cV1 L) (jV1 L))) hO) $$ Hlv
  ihave Hx' := (Entails.of_eq (pts_xyz (F := F) d L t _).symm) $$ Hx
  ihave Hz' := (Entails.of_eq (pts_z (F := F) d L t _).symm) $$ Hz
  ihave Hm' := (Entails.of_eq (pts_mark (F := F) d L t _).symm) $$ Hm
  rw [wp_bind]
  iapply (wp_rays d L (tileRays rays L) t) $$ H1
  iintro H1
  conv => simp_match
  rw [wp_bind]
  sl_for (stepInv d L (chunkRays (tileRays rays L) t.val) bm) $$ [H0 H2 H3 H4 H5 H6 H7]
  case region =>
    intro k _
    unfold stepInv
    iintro ⟨H0, H2, H3, H4, ⟨%g5, %h5, H5⟩, ⟨%g6, %h6, H6⟩, ⟨%g7, %h7, H7⟩⟩
    iapply (wp_step d L (chunkRays (tileRays rays L) t.val) bm v2 t _ _ _ _ _ (near_eq _) (far_eq _) k g5 h5 g6 h6 g7 h7) $$ [H0 H2 H3 H4 H5 H6 H7]
    · isplitl [H0]; · iexact H0
      isplitl [H2]; · iexact H2
      isplitl [H3]; · iexact H3
      isplitl [H4]; · iexact H4
      isplitl [H5]; · iexact H5
      isplitl [H6]; · iexact H6
      iexact H7
    iintro H0 H2 H3 H4 H5 H6 H7
    isplitl [H0]; · iexact H0
    isplitl [H2]; · iexact H2
    isplitl [H3]; · iexact H3
    isplitl [H4]; · iexact H4
    isplitl [H5]; · iexact H5
    isplitl [H6]; · iexact H6
    iexact H7
  · unfold stepInv
    isplitl [H0]; · iexact H0
    isplitl [H2]; · iexact H2
    isplitl [H3]; · iexact H3
    isplitl [H4]; · iexact H4
    isplitl [H5]
    · iexists g5; isplitr
      · ipureintro; intro y hy; omega
      · iexact H5
    isplitl [H6]
    · iexists g6; isplitr
      · ipureintro; intro y hy; omega
      · iexact H6
    iexists g7; isplitr
    · ipureintro; intro y hy; omega
    · iexact H7
  iintro %_ HI
  unfold stepInv
  icases HI with ⟨H0, H2, H3, H4, ⟨%g5, %h5, H5⟩, ⟨%g6, %h6, H6⟩, ⟨%g7, %h7, H7⟩⟩
  sl_exec (disch := first | exact View.amount_pos _ _ (show 0 < S6144.numel by decide) | exact View.amount_pos _ _ (show 0 < S2048.numel by decide))
  have e5 : ∀ i ∈ ((Memref.whole main_v3_0_scv : Memref sig .scVector .hbm S6291456 .f32).slice (Rect.unit (s := S6291456) (k1_off2 L t) S6144.size (k1_off2_inb L t)) (fun _ => rfl)).view.set, ((Memref.whole main_v3_0_scv : Memref sig .scVector .hbm S6291456 .f32).slice (Rect.unit (s := S6291456) (k1_off2 L t) S6144.size (k1_off2_inb L t)) (fun _ => rfl)).view.writes (Elt F) fx [⟨Rect.whole (Rect.unit (s := S6291456) (k1_off2 L t) S6144.size (k1_off2_inb L t)).shape, wp_chunk.sl.dma0 d L g5⟩] i = xyzVal rays bm i := by
    intro i hi
    obtain ⟨x, -, rfl⟩ := Finset.mem_map.mp hi
    refine (writes_whole_emb (Elt F) ((Memref.whole main_v3_0_scv : Memref sig .scVector .hbm S6291456 .f32).slice (Rect.unit (s := S6291456) (k1_off2 L t) S6144.size (k1_off2_inb L t)) (fun _ => rfl)).view fx _ x).trans ?_
    show g5 x = xyzVal rays bm _
    have hx : (x 0).val < 6144 := (x 0).isLt
    rw [h5 x (by show (x 0).val % 384 < 3 * 128; omega)]
    have ho : k1_off2 L t 0 = 6144 * (32 * wid1 L + t.val) := by rw [k1_off2_eq]; show 393216 * (L 1).val + 196608 * (L 0).val + 6144 * t.val = _; unfold wid1; omega
    rw [xyzFrom_shift bm _ (rayOf rays) (512 * wid1 L + 16 * t.val) (x 0).val
      ((rayOf_tile rays L (16 * t.val + (x 0).val / 384) (by omega)).trans (by congr 1; omega))]
    show _ = xyzFrom bm (rayOf rays) (k1_off2 L t 0 + 1 * (x 0).val)
    congr 1
    omega
  have e6 : ∀ i ∈ ((Memref.whole main_v3_1_scv : Memref sig .scVector .hbm S2097152 .f32).slice (Rect.unit (s := S2097152) (k1_off3 L t) S2048.size (k1_off3_inb L t)) (fun _ => rfl)).view.set, ((Memref.whole main_v3_1_scv : Memref sig .scVector .hbm S2097152 .f32).slice (Rect.unit (s := S2097152) (k1_off3 L t) S2048.size (k1_off3_inb L t)) (fun _ => rfl)).view.writes (Elt F) fz [⟨Rect.whole (Rect.unit (s := S2097152) (k1_off3 L t) S2048.size (k1_off3_inb L t)).shape, wp_chunk.sl.dma0_1 d L g6⟩] i = zVal rays bm i := by
    intro i hi
    obtain ⟨x, -, rfl⟩ := Finset.mem_map.mp hi
    refine (writes_whole_emb (Elt F) ((Memref.whole main_v3_1_scv : Memref sig .scVector .hbm S2097152 .f32).slice (Rect.unit (s := S2097152) (k1_off3 L t) S2048.size (k1_off3_inb L t)) (fun _ => rfl)).view fz _ x).trans ?_
    show g6 x = zVal rays bm _
    have hx : (x 0).val < 2048 := (x 0).isLt
    rw [h6 x (by show (x 0).val % 128 < 128; omega)]
    have ho : k1_off3 L t 0 = 2048 * (32 * wid1 L + t.val) := by rw [k1_off3_eq]; show 131072 * (L 1).val + 65536 * (L 0).val + 2048 * t.val = _; unfold wid1; omega
    rw [zFrom_shift bm _ (rayOf rays) (512 * wid1 L + 16 * t.val) (x 0).val
      ((rayOf_tile rays L (16 * t.val + (x 0).val / 128) (by omega)).trans (by congr 1; omega))]
    show _ = zFrom bm (rayOf rays) (k1_off3 L t 0 + 1 * (x 0).val)
    congr 1
    omega
  have e7 : ∀ i ∈ ((Memref.whole main_v3_2_scv : Memref sig .scVector .hbm S2097152 .i32).slice (Rect.unit (s := S2097152) (k1_off3 L t) S2048.size (k1_off3_inb L t)) (fun _ => rfl)).view.set, ((Memref.whole main_v3_2_scv : Memref sig .scVector .hbm S2097152 .i32).slice (Rect.unit (s := S2097152) (k1_off3 L t) S2048.size (k1_off3_inb L t)) (fun _ => rfl)).view.writes (Elt F) fm [⟨Rect.whole (Rect.unit (s := S2097152) (k1_off3 L t) S2048.size (k1_off3_inb L t)).shape, wp_chunk.sl.dma0_2 d L g7⟩] i = markVal rays bm i := by
    intro i hi
    obtain ⟨x, -, rfl⟩ := Finset.mem_map.mp hi
    refine (writes_whole_emb (Elt F) ((Memref.whole main_v3_2_scv : Memref sig .scVector .hbm S2097152 .i32).slice (Rect.unit (s := S2097152) (k1_off3 L t) S2048.size (k1_off3_inb L t)) (fun _ => rfl)).view fm _ x).trans ?_
    show g7 x = markVal rays bm _
    have hx : (x 0).val < 2048 := (x 0).isLt
    rw [h7 x (by show (x 0).val % 128 < 128; omega)]
    have ho : k1_off3 L t 0 = 2048 * (32 * wid1 L + t.val) := by rw [k1_off3_eq]; show 131072 * (L 1).val + 65536 * (L 0).val + 2048 * t.val = _; unfold wid1; omega
    rw [markFrom_shift bm _ (rayOf rays) (512 * wid1 L + 16 * t.val) (x 0).val
      ((rayOf_tile rays L (16 * t.val + (x 0).val / 128) (by omega)).trans (by congr 1; omega))]
    show _ = markFrom bm (rayOf rays) (k1_off3 L t 0 + 1 * (x 0).val)
    congr 1
    omega
  sl_step
  isplitl [H0 H1 H2 H3 H4 H5 H6 H7 Hs5 Hs6 Hs7 HO]
  · isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [Hs5]; · iexact Hs5
    isplitl [Hs6]; · iexact Hs6
    isplitl [Hs7]; · iexact Hs7
    iexists _; isplitr
    swap; · iexact HO
    ipureintro; intro p hp
    simp only [Finset.mem_insert] at hp
    rcases hp with rfl | rfl | rfl | hp
    · exact .inr (.inl rfl)
    · exact .inr (.inl rfl)
    · exact .inr (.inl rfl)
    · exact hW' p hp
  isplitl [Hx']
  · iapply (Entails.of_eq (pts_xyz (F := F) d L t _))
    iapply (Entails.of_eq (pointsTo_congr e5))
    iexact Hx'
  isplitl [Hz']
  · iapply (Entails.of_eq (pts_z (F := F) d L t _))
    iapply (Entails.of_eq (pointsTo_congr e6))
    iexact Hz'
  iapply (Entails.of_eq (pts_mark (F := F) d L t _))
  iapply (Entails.of_eq (pointsTo_congr e7))
  iexact Hm'

end Chunk

end Cert.Proof.March
end
-- ==== Proof.MarchTile.lean ====
/-
  The march call's tile: its copies in, its 32 chunks.
-/
module

public import proofs.«01_k».proof.Proof.MarchChunk

@[expose] public section

noncomputable section

namespace Cert.Proof.March

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

section Tile1

local notation "𝕄" => MM F

abbrev cLoc (d : Dev nD) : Loc nD τ sig := (SparseCore.T d).loc main_c
abbrev c0Loc (d : Dev nD) : Loc nD τ sig := (SparseCore.T d).loc main_c_0
abbrev c1Loc (d : Dev nD) : Loc nD τ sig := (SparseCore.T d).loc main_c_1

/-- A chunk's pieces of the three results before they are written. -/
def goPiece (d : Dev nD) (L : grid1.Coords) (j : ℕ) : sProp 𝕄 :=
  iprop((∃ f : Buf (Elt F) (xyzLoc d), xyzLoc d ↦[span 6291456 (6144 * (32 * wid1 L + j)) 6144]{fullShare} f)
    ∗ (∃ f : Buf (Elt F) (zLoc d), zLoc d ↦[span 2097152 (2048 * (32 * wid1 L + j)) 2048]{fullShare} f)
    ∗ (∃ f : Buf (Elt F) (markLoc d), markLoc d ↦[span 2097152 (2048 * (32 * wid1 L + j)) 2048]{fullShare} f))

/-- They written. -/
def donePiece (rays : S98304.Idx → F .f32) (bm : S65536.Idx → BitVec 32) (d : Dev nD) (L : grid1.Coords) (j : ℕ) : sProp 𝕄 :=
  iprop((xyzLoc d ↦[span 6291456 (6144 * (32 * wid1 L + j)) 6144]{fullShare} xyzVal rays bm)
    ∗ (zLoc d ↦[span 2097152 (2048 * (32 * wid1 L + j)) 2048]{fullShare} zVal rays bm)
    ∗ (markLoc d ↦[span 2097152 (2048 * (32 * wid1 L + j)) 2048]{fullShare} markVal rays bm))

/-- What a tile of the march reads: its rays, and a share of the bitmap and of the three tables. -/
def readsOf (rays : S98304.Idx → F .f32) (bm : S65536.Idx → BitVec 32) (q : PosShare TreeShare) (d : Dev nD) (L : grid1.Coords) : sProp 𝕄 :=
  iprop((v0Loc d ↦[span 98304 (3072 * wid1 L) 3072]{fullShare} rays) ∗ (v2Loc d ↦{q} bm) ∗ (cLoc d ↦{q} spread0) ∗ (c0Loc d ↦{q} spread1) ∗ (c1Loc d ↦{q} spread2))

/-- The pieces at trip `k` of the chunks' loop. -/
def pieceAt (rays : S98304.Idx → F .f32) (bm : S65536.Idx → BitVec 32) (d : Dev nD) (L : grid1.Coords) (k j : ℕ) : sProp 𝕄 :=
  if j < k then donePiece rays bm d L j else goPiece d L j

variable (d : Fin nD) (L : grid1.Coords)

/-- The chunks' loop's invariant. -/
def chunkInv (rays : S98304.Idx → F .f32) (bm : S65536.Idx → BitVec 32) (O : CellTallies nD τ sig (HIx 2)) (W : Waits sig (HIx 2)) (k : ℕ) (_ : Unit) : sProp 𝕄 :=
  iprop(levAts (K (F := F)).L (K (F := F)).lev ∗ tileState d L bm (tileRays rays L) O W
    ∗ bigSep (Finset.univ : Finset (Fin 32)) fun j => pieceAt rays bm d L k j.val)

/-- One trip of that loop. -/
theorem wp_chunk_trip (rays : S98304.Idx → F .f32) (bm : S65536.Idx → BitVec 32) (O : CellTallies nD τ sig (HIx 2)) (W : Waits sig (HIx 2)) (hO : ∀ g, O g none = 0) (v2 : BitVec 32) (t : Fin k1_t1_loop.trips) :
    (chunkInv d L rays bm O W t.val ⟨⟩ : sProp 𝕄)
      ⊢ wp frame (wpE defs₀ 𝒱₀ (V d (cV1 L) (jV1 L)) none) Set.univ (k1_t1_body L (Memref.whole main_v0_scv) (Memref.isWhole_whole _) (Memref.whole main_v2_scv) (Memref.isWhole_whole _) (Memref.whole main_c_scv) (Memref.isWhole_whole _) (Memref.whole main_c_0_scv) (Memref.isWhole_whole _) (Memref.whole main_c_1_scv) (Memref.isWhole_whole _) (Memref.whole main_v3_0_scv) (Memref.isWhole_whole _) (Memref.whole main_v3_1_scv) (Memref.isWhole_whole _) (Memref.whole main_v3_2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) cc1_scoped0 cc1_scoped1 cc1_scoped2 cc1_scoped3 cc1_scoped4 cc1_scoped5 cc1_scoped6 cc1_scoped7 v2 t ⟨⟩)
          fun _ => chunkInv d L rays bm O W (t.val + 1) ⟨⟩ := by
  have ht : t.val < 32 := t.isLt
  have hm : (⟨t.val, ht⟩ : Fin 32) ∈ (Finset.univ : Finset (Fin 32)) := Finset.mem_univ _
  have hr : bigSep ((Finset.univ : Finset (Fin 32)).erase ⟨t.val, ht⟩) (fun j => (pieceAt rays bm d L t.val j.val : sProp 𝕄))
      = bigSep ((Finset.univ : Finset (Fin 32)).erase ⟨t.val, ht⟩) fun j => pieceAt rays bm d L (t.val + 1) j.val := by
    refine bigSep_congr fun j hj => ?_
    have hne : j.val ≠ t.val := fun e => (Finset.mem_erase.mp hj).1 (Fin.ext e)
    unfold pieceAt
    by_cases h : j.val < t.val
    · rw [if_pos h, if_pos (by omega)]
    · rw [if_neg h, if_neg (by omega)]
  have hg : (pieceAt rays bm d L t.val t.val : sProp 𝕄) = goPiece d L t.val := if_neg (by omega)
  have hd : (pieceAt rays bm d L (t.val + 1) t.val : sProp 𝕄) = donePiece rays bm d L t.val := if_pos (by omega)
  unfold chunkInv
  rw [SparseCore.bigSep_erase' hm, SparseCore.bigSep_erase' hm, hr]
  simp only [hg, hd]
  unfold goPiece donePiece
  iintro ⟨#Hlv, Hst, ⟨Hx, Hz, Hm⟩, Hrest⟩
  iapply (wp_wand _ _ _) $$ [Hst Hx Hz Hm]
  · iapply (wp_chunk d L rays bm O W hO v2 t)
    isplitr; · iexact Hlv
    isplitl [Hst]; · iexact Hst
    isplitl [Hx]; · iexact Hx
    isplitl [Hz]; · iexact Hz
    iexact Hm
  iintro %_ ⟨Hst, Hx, Hz, Hm⟩
  isplitr; · iexact Hlv
  isplitl [Hst]; · iexact Hst
  isplitl [Hx Hz Hm]
  · isplitl [Hx]; · iexact Hx
    isplitl [Hz]; · iexact Hz
    iexact Hm
  iexact Hrest

omit [FloatOps F] in
/-- A tile's slice of the rays. -/
theorem pts_raySlice (f : Buf (Elt F) (v0Loc d)) :
    (((Memref.whole main_v0_scv : Memref sig .scVector .hbm S98304 .f32).slice (Rect.unit (s := S98304) (k1_off1 L) S3072.size (k1_off1_inb L)) (fun _ => rfl)).view.loc (V d (cV1 L) (jV1 L)) ↦[((Memref.whole main_v0_scv : Memref sig .scVector .hbm S98304 .f32).slice (Rect.unit (s := S98304) (k1_off1 L) S3072.size (k1_off1_inb L)) (fun _ => rfl)).view.set]{fullShare} f : sProp 𝕄) = v0Loc d ↦[span 98304 (3072 * wid1 L) 3072]{fullShare} f := by
  have e : ((Memref.whole main_v0_scv : Memref sig .scVector .hbm S98304 .f32).slice (Rect.unit (s := S98304) (k1_off1 L) S3072.size (k1_off1_inb L)) (fun _ => rfl)).view.set = span 98304 (3072 * wid1 L) 3072 :=
    (View.set_slice_whole _ _).trans (set_unit_span _ _ ((k1_off1_eq L).trans (by congr 1; unfold wid1; omega)))
  rw [e]

/-- The tile of the second call. -/
theorem march_body (hF : (K (F := F)).Facts) (rays : Buf (Elt F) (v0Loc d)) (bm : Buf (Elt F) (v2Loc d)) (q : PosShare TreeShare) (O : CellTallies nD τ sig (HIx 2)) (W : Waits sig (HIx 2)) (hO : ∀ g, O g none = 0) :
    (iprop(levAts (K (F := F)).L (K (F := F)).lev ∗ emp
        ∗ (readsOf rays bm q d L ∗ bigSep (Finset.univ : Finset (Fin 32)) fun j => goPiece d L j.val)
        ∗ scopedBufs (V d (cV1 L) (jV1 L)) ∗ scopedSems0 (V d (cV1 L) (jV1 L)) ∗ owes (V d (cV1 L) (jV1 L)) O W) : sProp 𝕄)
      ⊢ wp frame (wpE defs₀ 𝒱₀ (V d (cV1 L) (jV1 L)) none) Set.univ (cc1__march_body L (Memref.whole main_v0_scv) (Memref.isWhole_whole _) (Memref.whole main_v2_scv) (Memref.isWhole_whole _) (Memref.whole main_c_scv) (Memref.isWhole_whole _) (Memref.whole main_c_0_scv) (Memref.isWhole_whole _) (Memref.whole main_c_1_scv) (Memref.isWhole_whole _) (Memref.whole main_v3_0_scv) (Memref.isWhole_whole _) (Memref.whole main_v3_1_scv) (Memref.isWhole_whole _) (Memref.whole main_v3_2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) cc1_scoped0 cc1_scoped1 cc1_scoped2 cc1_scoped3 cc1_scoped4 cc1_scoped5 cc1_scoped6 cc1_scoped7)
          fun _ => iprop((readsOf rays bm q d L ∗ bigSep (Finset.univ : Finset (Fin 32)) fun j => donePiece rays bm d L j.val)
            ∗ scopedBufs (V d (cV1 L) (jV1 L)) ∗ scopedSems0 (V d (cV1 L) (jV1 L))
            ∗ ∃ W', ⌜∀ p ∈ W', p ∈ W ∨ p.2 = none ∨ p.2 = some (1 : Fin 2)⌝ ∗ owes (V d (cV1 L) (jV1 L)) O W') := by
  have hz : ∀ j : Fin 32, (pieceAt rays bm d L 0 j.val : sProp 𝕄) = goPiece d L j.val := fun j => if_neg (by omega)
  have hd : ∀ j : Fin 32, (pieceAt rays bm d L 32 j.val : sProp 𝕄) = donePiece rays bm d L j.val := fun j => if_pos j.isLt
  rw [(K (F := F)).scopedBufs_V hF d (cV1 L) (jV1 L), SparseCore.Cfg.scopedSems0_V (Val := Elt F) d (cV1 L) (jV1 L),
    ownSems_take d (cV1 L) (jV1 L) [.dma cc1_scoped0.sem, .dma cc1_scoped1.sem, .dma cc1_scoped2.sem, .dma cc1_scoped3.sem, .dma cc1_scoped4.sem, .dma cc1_scoped5.sem, .dma cc1_scoped6.sem, .dma cc1_scoped7.sem] (by decide) (by decide),
    ownBufs_take d (cV1 L) (jV1 L) [cc1_scratch0, cc1_scratch1, cc1_scratch2, cc1_scratch3, cc1_scratch4, cc1_scratch5, cc1_scratch6, cc1_scratch7] (by decide) (by intro r hr; simp only [List.mem_cons, List.not_mem_nil, or_false] at hr; rcases hr with rfl | rfl | rfl | rfl | rfl | rfl | rfl | rfl <;> rfl)]
  simp only [List.foldr_cons, List.foldr_nil]
  rw [cc1__march_body_eq_skeleton]
  unfold cc1__march_body_skel readsOf
  iintro ⟨#Hlv, -, ⟨⟨Hr, Hb, Ht0, Ht1, Ht2⟩, Hpieces⟩, ⟨⟨%f0, H0⟩, ⟨%f1, H1⟩, ⟨%f2, H2⟩, ⟨%f3, H3⟩, ⟨%f4, H4⟩, ⟨%f5, H5⟩, ⟨%f6, H6⟩, ⟨%f7, H7⟩, Hbufs⟩, ⟨Hs0, Hs1, Hs2, Hs3, Hs4, Hs5, Hs6, Hs7, Hsems⟩, HO⟩
  ihave Hmw := (show levAts (K (F := F)).L (K (F := F)).lev ⊢ Transfers.MayWaits (V d (cV1 L) (jV1 L)) (default : HIx 2) O from
    (K (F := F)).mayWaits_none (thr := (V d (cV1 L) (jV1 L))) hO) $$ Hlv
  ihave Hr' := (Entails.of_eq (pts_raySlice (F := F) d L _).symm) $$ Hr
  ihave Hb' := (Entails.of_eq (show (v2Loc d ↦{q} bm : sProp 𝕄) = ((Memref.whole main_v2_scv : Memref sig .scVector .hbm S65536 .i32).view.loc (V d (cV1 L) (jV1 L)) ↦{q} bm) from rfl)) $$ Hb
  ihave Ht0' := (Entails.of_eq (show (cLoc d ↦{q} spread0 : sProp 𝕄) = ((Memref.whole main_c_scv : Memref sig .scVector .hbm S128 .i32).view.loc (V d (cV1 L) (jV1 L)) ↦{q} spread0) from rfl)) $$ Ht0
  ihave Ht1' := (Entails.of_eq (show (c0Loc d ↦{q} spread1 : sProp 𝕄) = ((Memref.whole main_c_0_scv : Memref sig .scVector .hbm S128 .i32).view.loc (V d (cV1 L) (jV1 L)) ↦{q} spread1) from rfl)) $$ Ht1
  ihave Ht2' := (Entails.of_eq (show (c1Loc d ↦{q} spread2 : sProp 𝕄) = ((Memref.whole main_c_1_scv : Memref sig .scVector .hbm S128 .i32).view.loc (V d (cV1 L) (jV1 L)) ↦{q} spread2) from rfl)) $$ Ht2
  ihave H0' := (Entails.of_eq (show ((V d (cV1 L) (jV1 L)).loc cc1_scratch0 ↦{fullShare} f0 : sProp 𝕄) = ((Memref.whole cc1_scratch0 : Memref sig .scVector .vmem S65536 .i32).view.loc (V d (cV1 L) (jV1 L)) ↦{fullShare} f0) from rfl)) $$ H0
  ihave H1' := (Entails.of_eq (show ((V d (cV1 L) (jV1 L)).loc cc1_scratch1 ↦{fullShare} f1 : sProp 𝕄) = ((Memref.whole cc1_scratch1 : Memref sig .scVector .vmem S3072 .f32).view.loc (V d (cV1 L) (jV1 L)) ↦{fullShare} f1) from rfl)) $$ H1
  ihave H2' := (Entails.of_eq (show ((V d (cV1 L) (jV1 L)).loc cc1_scratch2 ↦{fullShare} f2 : sProp 𝕄) = ((Memref.whole cc1_scratch2 : Memref sig .scVector .vmem S128 .i32).view.loc (V d (cV1 L) (jV1 L)) ↦{fullShare} f2) from rfl)) $$ H2
  ihave H3' := (Entails.of_eq (show ((V d (cV1 L) (jV1 L)).loc cc1_scratch3 ↦{fullShare} f3 : sProp 𝕄) = ((Memref.whole cc1_scratch3 : Memref sig .scVector .vmem S128 .i32).view.loc (V d (cV1 L) (jV1 L)) ↦{fullShare} f3) from rfl)) $$ H3
  ihave H4' := (Entails.of_eq (show ((V d (cV1 L) (jV1 L)).loc cc1_scratch4 ↦{fullShare} f4 : sProp 𝕄) = ((Memref.whole cc1_scratch4 : Memref sig .scVector .vmem S128 .i32).view.loc (V d (cV1 L) (jV1 L)) ↦{fullShare} f4) from rfl)) $$ H4
  ihave H5' := (Entails.of_eq (show ((V d (cV1 L) (jV1 L)).loc cc1_scratch5 ↦{fullShare} f5 : sProp 𝕄) = ((Memref.whole cc1_scratch5 : Memref sig .scVector .vmem S6144 .f32).view.loc (V d (cV1 L) (jV1 L)) ↦{fullShare} f5) from rfl)) $$ H5
  ihave H6' := (Entails.of_eq (show ((V d (cV1 L) (jV1 L)).loc cc1_scratch6 ↦{fullShare} f6 : sProp 𝕄) = ((Memref.whole cc1_scratch6 : Memref sig .scVector .vmem S2048 .f32).view.loc (V d (cV1 L) (jV1 L)) ↦{fullShare} f6) from rfl)) $$ H6
  ihave H7' := (Entails.of_eq (show ((V d (cV1 L) (jV1 L)).loc cc1_scratch7 ↦{fullShare} f7 : sProp 𝕄) = ((Memref.whole cc1_scratch7 : Memref sig .scVector .vmem S2048 .i32).view.loc (V d (cV1 L) (jV1 L)) ↦{fullShare} f7) from rfl)) $$ H7
  sl_exec (disch := first | exact View.amount_pos _ _ (show 0 < S65536.numel by decide) | exact View.amount_pos _ _ (show 0 < S3072.numel by decide) | exact View.amount_pos _ _ (show 0 < S128.numel by decide))
  have e0 : View.write (Elt F) (Memref.whole cc1_scratch0 : Memref sig .scVector .vmem S65536 .i32).view f0 (march_body.sl.dma0 d bm) Finset.univ = bm := by
    unfold march_body.sl.dma0
    refine (View.write_whole_univ _ _ _).trans ?_
    rfl
  have e2 : View.write (Elt F) (Memref.whole cc1_scratch2 : Memref sig .scVector .vmem S128 .i32).view f2 (march_body.sl.dma0_2) Finset.univ = spread0 := by
    unfold march_body.sl.dma0_2
    refine (View.write_whole_univ _ _ _).trans ?_
    rfl
  have e3 : View.write (Elt F) (Memref.whole cc1_scratch3 : Memref sig .scVector .vmem S128 .i32).view f3 (march_body.sl.dma0_3) Finset.univ = spread1 := by
    unfold march_body.sl.dma0_3
    refine (View.write_whole_univ _ _ _).trans ?_
    rfl
  have e4 : View.write (Elt F) (Memref.whole cc1_scratch4 : Memref sig .scVector .vmem S128 .i32).view f4 (march_body.sl.dma0_4) Finset.univ = spread2 := by
    unfold march_body.sl.dma0_4
    refine (View.write_whole_univ _ _ _).trans ?_
    rfl
  have e1 : View.write (Elt F) (Memref.whole cc1_scratch1 : Memref sig .scVector .vmem S3072 .f32).view f1 (march_body.sl.dma0_1 d L rays) Finset.univ = tileRays rays L := by
    unfold march_body.sl.dma0_1
    refine (View.write_whole_univ _ _ _).trans ?_
    funext x
    have ho : k1_off1 L 0 = 3072 * wid1 L := by rw [k1_off1_eq]; show 6144 * (L 1).val + 3072 * (L 0).val = _; unfold wid1; omega
    show rays ((Rect.unit (s := S98304) (k1_off1 L) S3072.size (k1_off1_inb L)).emb x) = _
    refine eq_nth rays _ ?_
    show k1_off1 L 0 + 1 * (x 0).val = _
    omega
  rw [e0, e1, e2, e3, e4]
  sl_for (chunkInv d L rays bm O W) $$ [Hpieces H0' H1' H2' H3' H4' H5' H6' H7' Hs5 Hs6 Hs7 HO]
  case region =>
    intro k _
    exact wp_chunk_trip d L rays bm O W hO _ k
  · unfold chunkInv tileState
    simp only [hz]
    isplitr; · iexact Hlv
    isplitr [Hpieces]
    · isplitl [H0']; · iexact H0'
      isplitl [H1']; · iexact H1'
      isplitl [H2']; · iexact H2'
      isplitl [H3']; · iexact H3'
      isplitl [H4']; · iexact H4'
      isplitl [H5']; · iexists f5; iexact H5'
      isplitl [H6']; · iexists f6; iexact H6'
      isplitl [H7']; · iexists f7; iexact H7'
      isplitl [Hs5]; · iexact Hs5
      isplitl [Hs6]; · iexact Hs6
      isplitl [Hs7]; · iexact Hs7
      iexists _; isplitr
      swap; · iexact HO
      ipureintro; intro p hp
      simp only [Finset.mem_insert] at hp
      rcases hp with rfl | rfl | rfl | rfl | rfl | hp
      · exact .inr (.inl rfl)
      · exact .inr (.inl rfl)
      · exact .inr (.inl rfl)
      · exact .inr (.inl rfl)
      · exact .inr (.inl rfl)
      · exact .inl hp
    · iexact Hpieces
  iintro %_ HI
  have htr : Scf.trips k1_t1_loop.lb k1_t1_loop.ub k1_t1_loop.st = 32 := by decide
  rw [htr]
  unfold chunkInv tileState
  simp only [hd]
  icases HI with ⟨-, ⟨H0, H1, H2, H3, H4, ⟨%g5, H5⟩, ⟨%g6, H6⟩, ⟨%g7, H7⟩, Hs5, Hs6, Hs7, ⟨%W', %hW', HO⟩⟩, Hpieces⟩
  sl_step
  isplitl [Hr' Hb' Ht0' Ht1' Ht2' Hpieces]
  · isplitr [Hpieces]
    · isplitl [Hr']; · iapply (Entails.of_eq (pts_raySlice (F := F) d L _)); iexact Hr'
      isplitl [Hb']; · iexact Hb'
      isplitl [Ht0']; · iexact Ht0'
      isplitl [Ht1']; · iexact Ht1'
      iexact Ht2'
    · iexact Hpieces
  isplitl [H0 H1 H2 H3 H4 H5 H6 H7 Hbufs]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    iexact Hbufs
  isplitl [Hs0 Hs1 Hs2 Hs3 Hs4 Hs5 Hs6 Hs7 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    iexact Hsems
  iexists _; isplitr
  swap; · iexact HO
  ipureintro; exact hW'

end Tile1

end Cert.Proof.March
end
-- ==== Proof.MarchPay.lean ====
/-
  The launch of the two calls: what each tile takes and hands back, the arrays cut among the tiles, the host operations around the
  calls, and the program's run with the values it leaves.
-/
module

public import proofs.«01_k».proof.Proof.MarchTile
public import Idealize.ShloMosaic.Lib.StableHlo.RunRead

@[expose] public section

noncomputable section

namespace Cert.Proof.March

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.StableHlo (after held wp_hlo_within)

section Launch

local notation "𝕄" => MM F

/-! ## Arrays cut among tiles and chunks -/

theorem span_cut (N a n k : ℕ) (hn : 0 < n) (off : ℕ → ℕ) (ho : ∀ j, off j = a + n * j) :
    (Finset.univ : Finset (Fin k)).biUnion (fun j => span N (off j.val) n) = span N a (n * k) := by
  ext i
  simp only [Finset.mem_biUnion, Finset.mem_univ, true_and, mem_span, ho]
  constructor
  · rintro ⟨j, h1, h2⟩
    have hj : n * j.val + n ≤ n * k := by
      have := Nat.mul_le_mul_left n (Nat.succ_le_of_lt j.isLt)
      rwa [Nat.mul_succ] at this
    omega
  · rintro ⟨h1, h2⟩
    have hlt : ((i 0).val - a) / n < k := Nat.div_lt_of_lt_mul (by omega)
    have hd := Nat.div_add_mod ((i 0).val - a) n
    have hm := Nat.mod_lt ((i 0).val - a) hn
    refine ⟨⟨((i 0).val - a) / n, hlt⟩, ?_, ?_⟩ <;> dsimp only <;> omega

theorem span_disj (N a n k : ℕ) (off : ℕ → ℕ) (ho : ∀ j, off j = a + n * j) :
    ∀ i ∈ (Finset.univ : Finset (Fin k)), ∀ j ∈ (Finset.univ : Finset (Fin k)), i ≠ j → Disjoint (span N (off i.val) n) (span N (off j.val) n) := by
  intro i _ j _ hij
  rw [Finset.disjoint_left]
  intro x hx hy
  rw [mem_span, ho] at hx hy
  have hne : i.val ≠ j.val := fun e => hij (Fin.ext e)
  rcases Nat.lt_or_gt_of_ne hne with h | h
  · have := Nat.mul_le_mul_left n (Nat.succ_le_of_lt h)
    rw [Nat.mul_succ] at this; omega
  · have := Nat.mul_le_mul_left n (Nat.succ_le_of_lt h)
    rw [Nat.mul_succ] at this; omega

theorem span_univ (N : ℕ) : span N 0 N = Finset.univ := by
  ext i
  have h : (i 0).val < N := (i 0).isLt
  simp only [mem_span, Finset.mem_univ, iff_true]
  omega

variable (d : Dev nD)

omit [FloatOps F] in
theorem cut_v1 (f : Buf (Elt F) (v1Loc d)) :
    (v1Loc d ↦{fullShare} f : sProp 𝕄) = bigSep (Finset.univ : Finset (Fin 32)) fun w => v1Loc d ↦[span 2097152 (65536 * w.val) 65536]{fullShare} f := by
  refine Eq.trans ?_ (pointsTo_biUnion (ℓ := v1Loc d) Finset.univ (fun w : Fin 32 => span 2097152 (65536 * w.val) 65536)
    (span_disj 2097152 0 65536 32 (fun j => 65536 * j) fun j => (Nat.zero_add _).symm))
  rw [span_cut 2097152 0 65536 32 (by decide) (fun j => 65536 * j) fun j => (Nat.zero_add _).symm]
  exact congrArg (fun S => (v1Loc d ↦[S]{fullShare} f : sProp 𝕄)) (span_univ 2097152).symm

omit [FloatOps F] in
theorem cut_v2 (f : Buf (Elt F) (v2Loc d)) :
    (v2Loc d ↦{fullShare} f : sProp 𝕄) = bigSep (Finset.univ : Finset (Fin 32)) fun w => v2Loc d ↦[span 65536 (2048 * w.val) 2048]{fullShare} f := by
  refine Eq.trans ?_ (pointsTo_biUnion (ℓ := v2Loc d) Finset.univ (fun w : Fin 32 => span 65536 (2048 * w.val) 2048)
    (span_disj 65536 0 2048 32 (fun j => 2048 * j) fun j => (Nat.zero_add _).symm))
  rw [span_cut 65536 0 2048 32 (by decide) (fun j => 2048 * j) fun j => (Nat.zero_add _).symm]
  exact congrArg (fun S => (v2Loc d ↦[S]{fullShare} f : sProp 𝕄)) (span_univ 65536).symm

omit [FloatOps F] in
theorem cut_v0 (f : Buf (Elt F) (v0Loc d)) :
    (v0Loc d ↦{fullShare} f : sProp 𝕄) = bigSep (Finset.univ : Finset (Fin 32)) fun w => v0Loc d ↦[span 98304 (3072 * w.val) 3072]{fullShare} f := by
  refine Eq.trans ?_ (pointsTo_biUnion (ℓ := v0Loc d) Finset.univ (fun w : Fin 32 => span 98304 (3072 * w.val) 3072)
    (span_disj 98304 0 3072 32 (fun j => 3072 * j) fun j => (Nat.zero_add _).symm))
  rw [span_cut 98304 0 3072 32 (by decide) (fun j => 3072 * j) fun j => (Nat.zero_add _).symm]
  exact congrArg (fun S => (v0Loc d ↦[S]{fullShare} f : sProp 𝕄)) (span_univ 98304).symm

omit [FloatOps F] in
theorem cut_xyz0 (f : Buf (Elt F) (xyzLoc d)) :
    (xyzLoc d ↦{fullShare} f : sProp 𝕄) = bigSep (Finset.univ : Finset (Fin 32)) fun w => xyzLoc d ↦[span 6291456 (196608 * w.val) 196608]{fullShare} f := by
  refine Eq.trans ?_ (pointsTo_biUnion (ℓ := xyzLoc d) Finset.univ (fun w : Fin 32 => span 6291456 (196608 * w.val) 196608)
    (span_disj 6291456 0 196608 32 (fun j => 196608 * j) fun j => (Nat.zero_add _).symm))
  rw [span_cut 6291456 0 196608 32 (by decide) (fun j => 196608 * j) fun j => (Nat.zero_add _).symm]
  exact congrArg (fun S => (xyzLoc d ↦[S]{fullShare} f : sProp 𝕄)) (span_univ 6291456).symm

omit [FloatOps F] in
theorem cut_xyz (f : Buf (Elt F) (xyzLoc d)) :
    (xyzLoc d ↦{fullShare} f : sProp 𝕄) = bigSep (Finset.univ : Finset (Fin 32)) fun w => bigSep (Finset.univ : Finset (Fin 32)) fun j => xyzLoc d ↦[span 6291456 (6144 * (32 * w.val + j.val)) 6144]{fullShare} f := by
  refine (cut_xyz0 d f).trans (bigSep_congr fun w _ => ?_)
  refine Eq.trans ?_ (pointsTo_biUnion (ℓ := xyzLoc d) Finset.univ (fun j : Fin 32 => span 6291456 (6144 * (32 * w.val + j.val)) 6144)
    (span_disj 6291456 (196608 * w.val) 6144 32 (fun j => 6144 * (32 * w.val + j)) fun j => by omega))
  rw [span_cut 6291456 (196608 * w.val) 6144 32 (by decide) (fun j => 6144 * (32 * w.val + j)) fun j => by omega]

omit [FloatOps F] in
theorem cut_z0 (f : Buf (Elt F) (zLoc d)) :
    (zLoc d ↦{fullShare} f : sProp 𝕄) = bigSep (Finset.univ : Finset (Fin 32)) fun w => zLoc d ↦[span 2097152 (65536 * w.val) 65536]{fullShare} f := by
  refine Eq.trans ?_ (pointsTo_biUnion (ℓ := zLoc d) Finset.univ (fun w : Fin 32 => span 2097152 (65536 * w.val) 65536)
    (span_disj 2097152 0 65536 32 (fun j => 65536 * j) fun j => (Nat.zero_add _).symm))
  rw [span_cut 2097152 0 65536 32 (by decide) (fun j => 65536 * j) fun j => (Nat.zero_add _).symm]
  exact congrArg (fun S => (zLoc d ↦[S]{fullShare} f : sProp 𝕄)) (span_univ 2097152).symm

omit [FloatOps F] in
theorem cut_z (f : Buf (Elt F) (zLoc d)) :
    (zLoc d ↦{fullShare} f : sProp 𝕄) = bigSep (Finset.univ : Finset (Fin 32)) fun w => bigSep (Finset.univ : Finset (Fin 32)) fun j => zLoc d ↦[span 2097152 (2048 * (32 * w.val + j.val)) 2048]{fullShare} f := by
  refine (cut_z0 d f).trans (bigSep_congr fun w _ => ?_)
  refine Eq.trans ?_ (pointsTo_biUnion (ℓ := zLoc d) Finset.univ (fun j : Fin 32 => span 2097152 (2048 * (32 * w.val + j.val)) 2048)
    (span_disj 2097152 (65536 * w.val) 2048 32 (fun j => 2048 * (32 * w.val + j)) fun j => by omega))
  rw [span_cut 2097152 (65536 * w.val) 2048 32 (by decide) (fun j => 2048 * (32 * w.val + j)) fun j => by omega]

omit [FloatOps F] in
theorem cut_mark0 (f : Buf (Elt F) (markLoc d)) :
    (markLoc d ↦{fullShare} f : sProp 𝕄) = bigSep (Finset.univ : Finset (Fin 32)) fun w => markLoc d ↦[span 2097152 (65536 * w.val) 65536]{fullShare} f := by
  refine Eq.trans ?_ (pointsTo_biUnion (ℓ := markLoc d) Finset.univ (fun w : Fin 32 => span 2097152 (65536 * w.val) 65536)
    (span_disj 2097152 0 65536 32 (fun j => 65536 * j) fun j => (Nat.zero_add _).symm))
  rw [span_cut 2097152 0 65536 32 (by decide) (fun j => 65536 * j) fun j => (Nat.zero_add _).symm]
  exact congrArg (fun S => (markLoc d ↦[S]{fullShare} f : sProp 𝕄)) (span_univ 2097152).symm

omit [FloatOps F] in
theorem cut_mark (f : Buf (Elt F) (markLoc d)) :
    (markLoc d ↦{fullShare} f : sProp 𝕄) = bigSep (Finset.univ : Finset (Fin 32)) fun w => bigSep (Finset.univ : Finset (Fin 32)) fun j => markLoc d ↦[span 2097152 (2048 * (32 * w.val + j.val)) 2048]{fullShare} f := by
  refine (cut_mark0 d f).trans (bigSep_congr fun w _ => ?_)
  refine Eq.trans ?_ (pointsTo_biUnion (ℓ := markLoc d) Finset.univ (fun j : Fin 32 => span 2097152 (2048 * (32 * w.val + j.val)) 2048)
    (span_disj 2097152 (65536 * w.val) 2048 32 (fun j => 2048 * (32 * w.val + j)) fun j => by omega))
  rw [span_cut 2097152 (65536 * w.val) 2048 32 (by decide) (fun j => 2048 * (32 * w.val + j)) fun j => by omega]

/-- The share of what all tiles read that tile `w` holds. -/
def shareOf (w : ℕ) : PosShare TreeShare := Transfers.dealOf fullShare (Finset.univ : Finset (Fin 32)) (Fin.ofNat 32 w)

omit [FloatOps F] in
theorem deal_eq (ℓ : Loc nD τ sig) (f : Buf (Elt F) ℓ) :
    (ℓ ↦{fullShare} f : sProp 𝕄) = bigSep (Finset.univ : Finset (Fin 32)) fun w => ℓ ↦{shareOf w.val} f := by
  refine (Transfers.pointsTo_deal (Finset.univ : Finset (Fin 32)) Finset.univ_nonempty fullShare).trans (bigSep_congr fun w _ => ?_)
  have e : Fin.ofNat 32 w.val = w := Fin.ext (Nat.mod_eq_of_lt w.isLt)
  unfold shareOf
  rw [e]

/-- A tile's number from its core and subcore. -/
def tileEmb : (Σ _ : Fin 2, Fin 16) ↪ Fin 32 :=
  ⟨fun x => ⟨2 * x.2.val + x.1.val, by have h1 := x.1.isLt; have h2 := x.2.isLt; omega⟩, by
    rintro ⟨a, b⟩ ⟨a', b'⟩ h
    have h' : 2 * b.val + a.val = 2 * b'.val + a'.val := congrArg Fin.val h
    have h1 := a.isLt; have h2 := a'.isLt
    obtain rfl : a = a' := Fin.ext (by omega)
    obtain rfl : b = b' := Fin.ext (by omega)
    rfl⟩

omit [FloatOps F] in
/-- Over the cores and their subcores is over the tiles. -/
theorem bigSep_tiles (Φ : ℕ → sProp 𝕄) :
    (bigSep (Finset.univ : Finset (Fin 2)) fun c => bigSep (Finset.univ : Finset (Fin 16)) fun i => Φ (2 * i.val + c.val))
      = bigSep (Finset.univ : Finset (Fin 32)) fun w => Φ w.val := by
  have e : (Finset.univ : Finset (Fin 32)) = ((Finset.univ : Finset (Fin 2)).sigma fun _ => (Finset.univ : Finset (Fin 16))).map tileEmb := by decide
  rw [e, BI.bigSep_map, Pipeline.bigSep_sigma]
  rfl

/-! ## What each tile takes and hands back -/

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2

variable (m : (ℓ : Loc nD τ sig) → Buf (Elt F) ℓ) (ρ : Dev nD → PrngReg)

/-- The rays and the densities as the calls find them. -/
def rays : S98304.Idx → F .f32 := fun i => shapeCast S98304 (m (a0Loc d) : S16384x6.Idx → F .f32) shapeCasts_S16384x6_S98304 i
def dens : S2097152.Idx → F .f32 := fun i => shapeCast S2097152 (m (a2Loc d) : S1x2097152.Idx → F .f32) shapeCasts_S1x2097152_S2097152 i

/-- The bitmap between the calls. -/
def bits : S65536.Idx → BitVec 32 := bitmap (dens d m)

def go0 (w : ℕ) : sProp 𝕄 :=
  iprop((v1Loc d ↦[span 2097152 (65536 * w) 65536]{fullShare} dens d m) ∗ ∃ f : Buf (Elt F) (v2Loc d), v2Loc d ↦[span 65536 (2048 * w) 2048]{fullShare} f)

def td0 (w : ℕ) : sProp 𝕄 :=
  iprop((v1Loc d ↦[span 2097152 (65536 * w) 65536]{fullShare} dens d m) ∗ v2Loc d ↦[span 65536 (2048 * w) 2048]{fullShare} bitmap (dens d m))

def reads1 (w : ℕ) : sProp 𝕄 :=
  iprop((v0Loc d ↦[span 98304 (3072 * w) 3072]{fullShare} rays d m) ∗ (v2Loc d ↦{shareOf w} bits d m) ∗ (cLoc d ↦{shareOf w} spread0) ∗ (c0Loc d ↦{shareOf w} spread1) ∗ (c1Loc d ↦{shareOf w} spread2))

def go1 (w : ℕ) : sProp 𝕄 :=
  iprop(reads1 d m w ∗ bigSep (Finset.univ : Finset (Fin 32)) fun j =>
    iprop((∃ f : Buf (Elt F) (xyzLoc d), xyzLoc d ↦[span 6291456 (6144 * (32 * w + j.val)) 6144]{fullShare} f)
      ∗ (∃ f : Buf (Elt F) (zLoc d), zLoc d ↦[span 2097152 (2048 * (32 * w + j.val)) 2048]{fullShare} f)
      ∗ (∃ f : Buf (Elt F) (markLoc d), markLoc d ↦[span 2097152 (2048 * (32 * w + j.val)) 2048]{fullShare} f)))

def td1 (w : ℕ) : sProp 𝕄 :=
  iprop(reads1 d m w ∗ bigSep (Finset.univ : Finset (Fin 32)) fun j =>
    iprop((xyzLoc d ↦[span 6291456 (6144 * (32 * w + j.val)) 6144]{fullShare} xyzVal (rays d m) (bits d m))
      ∗ (zLoc d ↦[span 2097152 (2048 * (32 * w + j.val)) 2048]{fullShare} zVal (rays d m) (bits d m))
      ∗ (markLoc d ↦[span 2097152 (2048 * (32 * w + j.val)) 2048]{fullShare} markVal (rays d m) (bits d m))))

instance go0_storable (w : ℕ) : BI.Storable (upEmb : UEmb _ 𝕄) (go0 d m w) := by unfold go0; infer_instance
instance td0_storable (w : ℕ) : BI.Storable (upEmb : UEmb _ 𝕄) (td0 d m w) := by unfold td0; infer_instance
instance reads1_storable (w : ℕ) : BI.Storable (upEmb : UEmb _ 𝕄) (reads1 d m w) := by unfold reads1; infer_instance
instance go1_storable (w : ℕ) : BI.Storable (upEmb : UEmb _ 𝕄) (go1 d m w) := by unfold go1; infer_instance
instance td1_storable (w : ℕ) : BI.Storable (upEmb : UEmb _ 𝕄) (td1 d m w) := by unfold td1; infer_instance

/-- The payloads of the two calls: a core's are its tiles'. -/
def P : (K (F := F)).Pay (nD := nD) (Val := Elt F) (Name := ℕ) (U := UU) where
  st := fun q d c => match q with
    | 0 => bigSep (Finset.univ : Finset (Fin 16)) fun i => go0 d m (2 * i.val + c.val)
    | 1 => bigSep (Finset.univ : Finset (Fin 16)) fun i => go1 d m (2 * i.val + c.val)
  dn := fun q d c => match q with
    | 0 => bigSep (Finset.univ : Finset (Fin 16)) fun i => td0 d m (2 * i.val + c.val)
    | 1 => bigSep (Finset.univ : Finset (Fin 16)) fun i => td1 d m (2 * i.val + c.val)
  go := fun q d c i => match q with
    | 0 => go0 d m (2 * i.val + c.val)
    | 1 => go1 d m (2 * i.val + c.val)
  td := fun q d c i => match q with
    | 0 => td0 d m (2 * i.val + c.val)
    | 1 => td1 d m (2 * i.val + c.val)
  x := fun _ _ => iprop(emp)

instance P_storable : (P (F := F) m).IsStorable where
  st q d c := match q with
    | 0 => (inferInstance : BI.Storable (upEmb : UEmb _ 𝕄) (bigSep (Finset.univ : Finset (Fin 16)) fun i => go0 d m (2 * i.val + c.val)))
    | 1 => (inferInstance : BI.Storable (upEmb : UEmb _ 𝕄) (bigSep (Finset.univ : Finset (Fin 16)) fun i => go1 d m (2 * i.val + c.val)))
  dn q d c := match q with
    | 0 => (inferInstance : BI.Storable (upEmb : UEmb _ 𝕄) (bigSep (Finset.univ : Finset (Fin 16)) fun i => td0 d m (2 * i.val + c.val)))
    | 1 => (inferInstance : BI.Storable (upEmb : UEmb _ 𝕄) (bigSep (Finset.univ : Finset (Fin 16)) fun i => td1 d m (2 * i.val + c.val)))
  go q d c i := match q with
    | 0 => (inferInstance : BI.Storable (upEmb : UEmb _ 𝕄) (go0 d m (2 * i.val + c.val)))
    | 1 => (inferInstance : BI.Storable (upEmb : UEmb _ 𝕄) (go1 d m (2 * i.val + c.val)))
  td q d c i := match q with
    | 0 => (inferInstance : BI.Storable (upEmb : UEmb _ 𝕄) (td0 d m (2 * i.val + c.val)))
    | 1 => (inferInstance : BI.Storable (upEmb : UEmb _ 𝕄) (td1 d m (2 * i.val + c.val)))

/-! ## The tiles' obligations -/

def coords0 (c : Fin (grid0.bound 0)) (s : Fin (grid0.bound 1)) : grid0.Coords :=
  fun | 0 => c | 1 => s | ⟨_ + 2, h⟩ => absurd h (Nat.not_lt.2 (Nat.le_add_left _ _))
def coords1 (c : Fin (grid1.bound 0)) (s : Fin (grid1.bound 1)) : grid1.Coords :=
  fun | 0 => c | 1 => s | ⟨_ + 2, h⟩ => absurd h (Nat.not_lt.2 (Nat.le_add_left _ _))

theorem defs₀_pack (c : Fin τ.nSC) (s : Fin τ.nSub) :
    defs₀ (F := F) (.scVector c s) 0 ()
      = SparseCore.onTile hcore0 hsub0 (fun c s => cc0__pack_body (coords0 c s) (Memref.whole main_v1_scv) (Memref.isWhole_whole _) (Memref.whole main_v2_scv) (Memref.isWhole_whole _) (Memref.whole cc0_scratch0) (Memref.isWhole_whole _) (Memref.whole cc0_scratch1) (Memref.isWhole_whole _) cc0_scoped0 cc0_scoped1) ⟨⟩ c s := rfl

theorem defs₀_march (c : Fin τ.nSC) (s : Fin τ.nSub) :
    defs₀ (F := F) (.scVector c s) 1 ()
      = SparseCore.onTile hcore1 hsub1 (fun c s => cc1__march_body (coords1 c s) (Memref.whole main_v0_scv) (Memref.isWhole_whole _) (Memref.whole main_v2_scv) (Memref.isWhole_whole _) (Memref.whole main_c_scv) (Memref.isWhole_whole _) (Memref.whole main_c_0_scv) (Memref.isWhole_whole _) (Memref.whole main_c_1_scv) (Memref.isWhole_whole _) (Memref.whole main_v3_0_scv) (Memref.isWhole_whole _) (Memref.whole main_v3_1_scv) (Memref.isWhole_whole _) (Memref.whole main_v3_2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) cc1_scoped0 cc1_scoped1 cc1_scoped2 cc1_scoped3 cc1_scoped4 cc1_scoped5 cc1_scoped6 cc1_scoped7) ⟨⟩ c s := rfl

theorem tileObl0 (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_pack]; simp only [SparseCore.onTile, hci, and_self, ↓reduceDIte]
  exact pack_body d (coords0 ⟨_, hci.1⟩ ⟨_, hci.2⟩) hF (dens d m) O W hO

theorem tileObl1 (hF : (K (F := F)).Facts) : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_march]; simp only [SparseCore.onTile, hci, and_self, ↓reduceDIte]
  exact march_body d (coords1 ⟨_, hci.1⟩ ⟨_, hci.2⟩) hF (rays d m) (bits d m) (shareOf (2 * i.val + c.val)) O W hO

theorem vecSplit0 : (K (F := F)).VecSplit' (P m) 0 := by
  intro d c
  unfold P
  dsimp only
  iintro H; imodintro
  isplitl [H]; · iexact H
  iintro H; iexact H

theorem vecSplit1 : (K (F := F)).VecSplit' (P m) 1 := by
  intro d c
  unfold P
  dsimp only
  iintro H; imodintro
  isplitl [H]; · iexact H
  iintro H; iexact H

/-! ## The calls' arrays, whole -/

theorem st0_eq : (bigSep Finset.univ fun c : Fin ((K (F := F)).nCore 0) => (P m).st 0 d c) = (bigSep (Finset.univ : Finset (Fin 32)) fun w => go0 d m w.val : sProp 𝕄) := by
  rw [← bigSep_tiles (F := F) (go0 d m)]
  unfold P
  rfl

theorem some0 (f : Buf (Elt F) (v2Loc d)) :
    (bigSep (Finset.univ : Finset (Fin 32)) fun w => v2Loc d ↦[span 65536 (2048 * w.val) 2048]{fullShare} f)
      ⊢ (bigSep (Finset.univ : Finset (Fin 32)) fun w => iprop(∃ f : Buf (Elt F) (v2Loc d), v2Loc d ↦[span 65536 (2048 * w.val) 2048]{fullShare} f) : sProp 𝕄) := by
  refine bigSep_mono fun w _ => ?_
  show (v2Loc d ↦[span 65536 (2048 * w.val) 2048]{fullShare} f : sProp 𝕄) ⊢ iprop(∃ f : Buf (Elt F) (v2Loc d), v2Loc d ↦[span 65536 (2048 * w.val) 2048]{fullShare} f)
  iintro H; iexists f; iexact H

theorem start0 (f : Buf (Elt F) (v2Loc d)) :
    (iprop((v1Loc d ↦{fullShare} dens d m) ∗ (v2Loc d ↦{fullShare} f)) : sProp 𝕄)
      ⊢ bigSep Finset.univ fun c : Fin ((K (F := F)).nCore 0) => (P m).st 0 d c := by
  rw [st0_eq]
  unfold go0
  rw [bigSep_sep', cut_v1, cut_v2]
  iintro ⟨H1, H2⟩
  isplitl [H1]; · iexact H1
  iapply (some0 d f) $$ H2

theorem dn0_eq : (bigSep Finset.univ fun c : Fin ((K (F := F)).nCore 0) => (P m).dn 0 d c) = (bigSep (Finset.univ : Finset (Fin 32)) fun w => td0 d m w.val : sProp 𝕄) := by
  rw [← bigSep_tiles (F := F) (td0 d m)]
  unfold P
  rfl

theorem done0 : (bigSep Finset.univ fun c : Fin ((K (F := F)).nCore 0) => (P m).dn 0 d c)
    ⊢ (iprop((v1Loc d ↦{fullShare} dens d m) ∗ (v2Loc d ↦{fullShare} bits d m)) : sProp 𝕄) := by
  rw [dn0_eq]
  unfold td0 bits
  rw [bigSep_sep', cut_v1, cut_v2]

/-- The arrays that the tiles of the march only read. -/
def shared : sProp 𝕄 :=
  iprop((v0Loc d ↦{fullShare} rays d m) ∗ (v2Loc d ↦{fullShare} bits d m) ∗ (cLoc d ↦{fullShare} spread0) ∗ (c0Loc d ↦{fullShare} spread1) ∗ (c1Loc d ↦{fullShare} spread2))

theorem shared_eq : (shared d m : sProp 𝕄) = bigSep (Finset.univ : Finset (Fin 32)) fun w => reads1 d m w.val := by
  unfold shared reads1
  rw [bigSep_sep', bigSep_sep', bigSep_sep', bigSep_sep', cut_v0, deal_eq (v2Loc d), deal_eq (cLoc d), deal_eq (c0Loc d), deal_eq (c1Loc d)]

theorem st1_eq : (bigSep Finset.univ fun c : Fin ((K (F := F)).nCore 1) => (P m).st 1 d c) = (bigSep (Finset.univ : Finset (Fin 32)) fun w => go1 d m w.val : sProp 𝕄) := by
  rw [← bigSep_tiles (F := F) (go1 d m)]
  unfold P
  rfl

theorem some1 (fx : Buf (Elt F) (xyzLoc d)) (fz : Buf (Elt F) (zLoc d)) (fm : Buf (Elt F) (markLoc d)) :
    iprop((bigSep (Finset.univ : Finset (Fin 32)) fun w => bigSep (Finset.univ : Finset (Fin 32)) fun j => xyzLoc d ↦[span 6291456 (6144 * (32 * w.val + j.val)) 6144]{fullShare} fx)
      ∗ (bigSep (Finset.univ : Finset (Fin 32)) fun w => bigSep (Finset.univ : Finset (Fin 32)) fun j => zLoc d ↦[span 2097152 (2048 * (32 * w.val + j.val)) 2048]{fullShare} fz)
      ∗ (bigSep (Finset.univ : Finset (Fin 32)) fun w => bigSep (Finset.univ : Finset (Fin 32)) fun j => markLoc d ↦[span 2097152 (2048 * (32 * w.val + j.val)) 2048]{fullShare} fm))
      ⊢ (bigSep (Finset.univ : Finset (Fin 32)) fun w => bigSep (Finset.univ : Finset (Fin 32)) fun j => iprop((∃ f : Buf (Elt F) (xyzLoc d), xyzLoc d ↦[span 6291456 (6144 * (32 * w.val + j.val)) 6144]{fullShare} f)
      ∗ (∃ f : Buf (Elt F) (zLoc d), zLoc d ↦[span 2097152 (2048 * (32 * w.val + j.val)) 2048]{fullShare} f)
      ∗ (∃ f : Buf (Elt F) (markLoc d), markLoc d ↦[span 2097152 (2048 * (32 * w.val + j.val)) 2048]{fullShare} f)) : sProp 𝕄) := by
  simp only [← bigSep_sep']
  refine bigSep_mono fun w _ => bigSep_mono fun j _ => ?_
  show (iprop((xyzLoc d ↦[span 6291456 (6144 * (32 * w.val + j.val)) 6144]{fullShare} fx)
      ∗ (zLoc d ↦[span 2097152 (2048 * (32 * w.val + j.val)) 2048]{fullShare} fz)
      ∗ (markLoc d ↦[span 2097152 (2048 * (32 * w.val + j.val)) 2048]{fullShare} fm)) : sProp 𝕄) ⊢ iprop((∃ f : Buf (Elt F) (xyzLoc d), xyzLoc d ↦[span 6291456 (6144 * (32 * w.val + j.val)) 6144]{fullShare} f)
      ∗ (∃ f : Buf (Elt F) (zLoc d), zLoc d ↦[span 2097152 (2048 * (32 * w.val + j.val)) 2048]{fullShare} f)
      ∗ (∃ f : Buf (Elt F) (markLoc d), markLoc d ↦[span 2097152 (2048 * (32 * w.val + j.val)) 2048]{fullShare} f))
  iintro ⟨Hx, Hz, Hm⟩
  isplitl [Hx]; · iexists fx; iexact Hx
  isplitl [Hz]; · iexists fz; iexact Hz
  iexists fm; iexact Hm

theorem start1 (fx : Buf (Elt F) (xyzLoc d)) (fz : Buf (Elt F) (zLoc d)) (fm : Buf (Elt F) (markLoc d)) :
    (iprop(shared d m ∗ (xyzLoc d ↦{fullShare} fx) ∗ (zLoc d ↦{fullShare} fz) ∗ (markLoc d ↦{fullShare} fm)) : sProp 𝕄)
      ⊢ bigSep Finset.univ fun c : Fin ((K (F := F)).nCore 1) => (P m).st 1 d c := by
  rw [st1_eq]
  unfold go1
  rw [bigSep_sep', shared_eq, cut_xyz, cut_z, cut_mark]
  iintro ⟨H1, H2⟩
  isplitl [H1]; · iexact H1
  iapply (some1 d fx fz fm) $$ H2

theorem dn1_eq : (bigSep Finset.univ fun c : Fin ((K (F := F)).nCore 1) => (P m).dn 1 d c) = (bigSep (Finset.univ : Finset (Fin 32)) fun w => td1 d m w.val : sProp 𝕄) := by
  rw [← bigSep_tiles (F := F) (td1 d m)]
  unfold P
  rfl

theorem done1 : (bigSep Finset.univ fun c : Fin ((K (F := F)).nCore 1) => (P m).dn 1 d c)
    ⊢ (iprop(shared d m ∗ (xyzLoc d ↦{fullShare} xyzVal (rays d m) (bits d m)) ∗ (zLoc d ↦{fullShare} zVal (rays d m) (bits d m)) ∗ (markLoc d ↦{fullShare} markVal (rays d m) (bits d m))) : sProp 𝕄) := by
  rw [dn1_eq]
  unfold td1
  simp only [bigSep_sep']
  rw [shared_eq, cut_xyz, cut_z, cut_mark]

end Launch

end Cert.Proof.March
end
-- ==== Proof.MarchRun.lean ====
/-
  The program's run: the TensorCore's operations around the two calls, and what every execution leaves.
-/
module

public import proofs.«01_k».proof.Proof.MarchPay

@[expose] public section

noncomputable section

namespace Cert.Proof.March

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.StableHlo (after held wp_hlo_within)

section Run

local notation "𝕄" => MM F

variable (d : Dev nD) (m : (ℓ : Loc nD τ sig) → Buf (Elt F) ℓ) (ρ : Dev nD → PrngReg)

abbrev r_arg0 : DevRef τ sig := Proc.devRef .tc (main_arg0 : Ref sig .tc)
abbrev r_arg1 : DevRef τ sig := Proc.devRef .tc (main_arg1 : Ref sig .tc)
abbrev r_arg2 : DevRef τ sig := Proc.devRef .tc (main_arg2 : Ref sig .tc)
abbrev r_c : DevRef τ sig := Proc.devRef .tc (main_c : Ref sig .tc)
abbrev r_c_0 : DevRef τ sig := Proc.devRef .tc (main_c_0 : Ref sig .tc)
abbrev r_c_1 : DevRef τ sig := Proc.devRef .tc (main_c_1 : Ref sig .tc)
abbrev r_v0 : DevRef τ sig := Proc.devRef .tc (main_v0 : Ref sig .tc)
abbrev r_v1 : DevRef τ sig := Proc.devRef .tc (main_v1 : Ref sig .tc)
abbrev r_v2 : DevRef τ sig := Proc.devRef .tc (main_v2 : Ref sig .tc)
abbrev r_v3_0 : DevRef τ sig := Proc.devRef .tc (main_v3_0 : Ref sig .tc)
abbrev r_v3_1 : DevRef τ sig := Proc.devRef .tc (main_v3_1 : Ref sig .tc)
abbrev r_v3_2 : DevRef τ sig := Proc.devRef .tc (main_v3_2 : Ref sig .tc)
abbrev r_v4 : DevRef τ sig := Proc.devRef .tc (main_v4 : Ref sig .tc)
abbrev r_v5 : DevRef τ sig := Proc.devRef .tc (main_v5 : Ref sig .tc)
abbrev r_c_2 : DevRef τ sig := Proc.devRef .tc (main_c_2 : Ref sig .tc)
abbrev r_v6 : DevRef τ sig := Proc.devRef .tc (main_v6 : Ref sig .tc)
abbrev r_v7 : DevRef τ sig := Proc.devRef .tc (main_v7 : Ref sig .tc)
abbrev r_v8 : DevRef τ sig := Proc.devRef .tc (main_v8 : Ref sig .tc)
abbrev r_c_3 : DevRef τ sig := Proc.devRef .tc (main_c_3 : Ref sig .tc)

/-- The TensorCore's arrays. -/
abbrev arrays : Finset (DevRef τ sig) := {r_arg0, r_arg1, r_arg2, r_c, r_c_0, r_c_1, r_v0, r_v1, r_v2, r_v3_0, r_v3_1, r_v3_2, r_v4, r_v5, r_c_2, r_v6, r_v7, r_v8, r_c_3}

omit [FloatOps F] in
theorem held_arrays (W : Valuation τ sig (Elt F)) :
    (held (SparseCore.T d) arrays W : sProp 𝕄) = iprop(((SparseCore.T d).loc main_arg0 ↦{fullShare} W r_arg0) ∗ ((SparseCore.T d).loc main_arg1 ↦{fullShare} W r_arg1) ∗ ((SparseCore.T d).loc main_arg2 ↦{fullShare} W r_arg2) ∗ ((SparseCore.T d).loc main_c ↦{fullShare} W r_c) ∗ ((SparseCore.T d).loc main_c_0 ↦{fullShare} W r_c_0) ∗ ((SparseCore.T d).loc main_c_1 ↦{fullShare} W r_c_1) ∗ ((SparseCore.T d).loc main_v0 ↦{fullShare} W r_v0) ∗ ((SparseCore.T d).loc main_v1 ↦{fullShare} W r_v1) ∗ ((SparseCore.T d).loc main_v2 ↦{fullShare} W r_v2) ∗ ((SparseCore.T d).loc main_v3_0 ↦{fullShare} W r_v3_0) ∗ ((SparseCore.T d).loc main_v3_1 ↦{fullShare} W r_v3_1) ∗ ((SparseCore.T d).loc main_v3_2 ↦{fullShare} W r_v3_2) ∗ ((SparseCore.T d).loc main_v4 ↦{fullShare} W r_v4) ∗ ((SparseCore.T d).loc main_v5 ↦{fullShare} W r_v5) ∗ ((SparseCore.T d).loc main_c_2 ↦{fullShare} W r_c_2) ∗ ((SparseCore.T d).loc main_v6 ↦{fullShare} W r_v6) ∗ ((SparseCore.T d).loc main_v7 ↦{fullShare} W r_v7) ∗ ((SparseCore.T d).loc main_v8 ↦{fullShare} W r_v8) ∗ ((SparseCore.T d).loc main_c_3 ↦{fullShare} W r_c_3)) := by
  unfold held arrays
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem unscoped_arrays (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1) ∗ ((SparseCore.T d).loc main_arg2 ↦{fullShare} W main_arg2) ∗ ((SparseCore.T d).loc main_c ↦{fullShare} W main_c) ∗ ((SparseCore.T d).loc main_c_0 ↦{fullShare} W main_c_0) ∗ ((SparseCore.T d).loc main_c_1 ↦{fullShare} W main_c_1) ∗ ((SparseCore.T d).loc main_v0 ↦{fullShare} W main_v0) ∗ ((SparseCore.T d).loc main_v1 ↦{fullShare} W main_v1) ∗ ((SparseCore.T d).loc main_v2 ↦{fullShare} W main_v2) ∗ ((SparseCore.T d).loc main_v3_0 ↦{fullShare} W main_v3_0) ∗ ((SparseCore.T d).loc main_v3_1 ↦{fullShare} W main_v3_1) ∗ ((SparseCore.T d).loc main_v3_2 ↦{fullShare} W main_v3_2) ∗ ((SparseCore.T d).loc main_v4 ↦{fullShare} W main_v4) ∗ ((SparseCore.T d).loc main_v5 ↦{fullShare} W main_v5) ∗ ((SparseCore.T d).loc main_c_2 ↦{fullShare} W main_c_2) ∗ ((SparseCore.T d).loc main_v6 ↦{fullShare} W main_v6) ∗ ((SparseCore.T d).loc main_v7 ↦{fullShare} W main_v7) ∗ ((SparseCore.T d).loc main_v8 ↦{fullShare} W main_v8) ∗ ((SparseCore.T d).loc main_c_3 ↦{fullShare} W main_c_3)) := by
  unfold unscopedBufs
  rw [show (Finset.univ.filter fun b : Ref sig .tc => ¬ b.isScoped) = {main_arg0, main_arg1, main_arg2, main_c, main_c_0, main_c_1, main_v0, main_v1, main_v2, main_v3_0, main_v3_1, main_v3_2, main_v4, main_v5, main_c_2, main_v6, main_v7, main_v8, main_c_3} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem held_of (W : Valuation τ sig (Elt F)) {xarg0 : Buf (Elt F) ((SparseCore.T d).loc main_arg0)} {xarg1 : Buf (Elt F) ((SparseCore.T d).loc main_arg1)} {xarg2 : Buf (Elt F) ((SparseCore.T d).loc main_arg2)} {xc : Buf (Elt F) ((SparseCore.T d).loc main_c)} {xc_0 : Buf (Elt F) ((SparseCore.T d).loc main_c_0)} {xc_1 : Buf (Elt F) ((SparseCore.T d).loc main_c_1)} {xv0 : Buf (Elt F) ((SparseCore.T d).loc main_v0)} {xv1 : Buf (Elt F) ((SparseCore.T d).loc main_v1)} {xv2 : Buf (Elt F) ((SparseCore.T d).loc main_v2)} {xv3_0 : Buf (Elt F) ((SparseCore.T d).loc main_v3_0)} {xv3_1 : Buf (Elt F) ((SparseCore.T d).loc main_v3_1)} {xv3_2 : Buf (Elt F) ((SparseCore.T d).loc main_v3_2)} {xv4 : Buf (Elt F) ((SparseCore.T d).loc main_v4)} {xv5 : Buf (Elt F) ((SparseCore.T d).loc main_v5)} {xc_2 : Buf (Elt F) ((SparseCore.T d).loc main_c_2)} {xv6 : Buf (Elt F) ((SparseCore.T d).loc main_v6)} {xv7 : Buf (Elt F) ((SparseCore.T d).loc main_v7)} {xv8 : Buf (Elt F) ((SparseCore.T d).loc main_v8)} {xc_3 : Buf (Elt F) ((SparseCore.T d).loc main_c_3)}
    (harg0 : W r_arg0 = xarg0) (harg1 : W r_arg1 = xarg1) (harg2 : W r_arg2 = xarg2) (hc : W r_c = xc) (hc_0 : W r_c_0 = xc_0) (hc_1 : W r_c_1 = xc_1) (hv0 : W r_v0 = xv0) (hv1 : W r_v1 = xv1) (hv2 : W r_v2 = xv2) (hv3_0 : W r_v3_0 = xv3_0) (hv3_1 : W r_v3_1 = xv3_1) (hv3_2 : W r_v3_2 = xv3_2) (hv4 : W r_v4 = xv4) (hv5 : W r_v5 = xv5) (hc_2 : W r_c_2 = xc_2) (hv6 : W r_v6 = xv6) (hv7 : W r_v7 = xv7) (hv8 : W r_v8 = xv8) (hc_3 : W r_c_3 = xc_3) :
    (held (SparseCore.T d) arrays W : sProp 𝕄) = iprop(((SparseCore.T d).loc main_arg0 ↦{fullShare} xarg0) ∗ ((SparseCore.T d).loc main_arg1 ↦{fullShare} xarg1) ∗ ((SparseCore.T d).loc main_arg2 ↦{fullShare} xarg2) ∗ ((SparseCore.T d).loc main_c ↦{fullShare} xc) ∗ ((SparseCore.T d).loc main_c_0 ↦{fullShare} xc_0) ∗ ((SparseCore.T d).loc main_c_1 ↦{fullShare} xc_1) ∗ ((SparseCore.T d).loc main_v0 ↦{fullShare} xv0) ∗ ((SparseCore.T d).loc main_v1 ↦{fullShare} xv1) ∗ ((SparseCore.T d).loc main_v2 ↦{fullShare} xv2) ∗ ((SparseCore.T d).loc main_v3_0 ↦{fullShare} xv3_0) ∗ ((SparseCore.T d).loc main_v3_1 ↦{fullShare} xv3_1) ∗ ((SparseCore.T d).loc main_v3_2 ↦{fullShare} xv3_2) ∗ ((SparseCore.T d).loc main_v4 ↦{fullShare} xv4) ∗ ((SparseCore.T d).loc main_v5 ↦{fullShare} xv5) ∗ ((SparseCore.T d).loc main_c_2 ↦{fullShare} xc_2) ∗ ((SparseCore.T d).loc main_v6 ↦{fullShare} xv6) ∗ ((SparseCore.T d).loc main_v7 ↦{fullShare} xv7) ∗ ((SparseCore.T d).loc main_v8 ↦{fullShare} xv8) ∗ ((SparseCore.T d).loc main_c_3 ↦{fullShare} xc_3)) := by
  subst harg0 harg1 harg2 hc hc_0 hc_1 hv0 hv1 hv2 hv3_0 hv3_1 hv3_2 hv4 hv5 hc_2 hv6 hv7 hv8 hc_3
  exact held_arrays d W

/-- The arrays' contents at the launch. -/
def V0 : Valuation τ sig (Elt F) := fun b => m (d, b)

omit [FloatOps F] in
theorem unscoped_held : (unscopedBufs d (fun b => m ((SparseCore.T d).loc b)) : sProp 𝕄) = held (SparseCore.T d) arrays (V0 d m) := by
  rw [unscoped_arrays, held_arrays]; rfl

abbrev op_c : HloOp τ sig (Elt F) := StableHlo.nullary main_c (fun i => lit0 (S128.rowMajor i))
abbrev op_c_0 : HloOp τ sig (Elt F) := StableHlo.nullary main_c_0 (fun i => lit1 (S128.rowMajor i))
abbrev op_c_1 : HloOp τ sig (Elt F) := StableHlo.nullary main_c_1 (fun i => lit2 (S128.rowMajor i))
abbrev op_v0 : HloOp τ sig (Elt F) := StableHlo.reshape main_arg0 main_v0 (rfl : (.f32 : EltTy) = .f32) shapeCasts_S16384x6_S98304
abbrev op_v1 : HloOp τ sig (Elt F) := StableHlo.reshape main_arg2 main_v1 (rfl : (.f32 : EltTy) = .f32) shapeCasts_S1x2097152_S2097152
abbrev op_v4 : HloOp τ sig (Elt F) := StableHlo.reshape main_v3_0 main_v4 (rfl : (.f32 : EltTy) = .f32) shapeCasts_S6291456_S16384x128x3
abbrev op_v5 : HloOp τ sig (Elt F) := StableHlo.reshape main_v3_2 main_v5 (rfl : (.i32 : EltTy) = .i32) shapeCasts_S2097152_S16384x128
abbrev op_c_2 : HloOp τ sig (Elt F) := StableHlo.nullary main_c_2 (constantI S_ 32 0#32)
abbrev op_v6 : HloOp τ sig (Elt F) := StableHlo.unary main_c_2 main_v6 (broadcastInDim S16384x128 ![] bcast_S_S16384x128 : (⟨S_, .i32⟩ : BufTy).Contents (Elt F) → (⟨S16384x128, .i32⟩ : BufTy).Contents (Elt F))
abbrev op_v7 : HloOp τ sig (Elt F) := StableHlo.binary main_v5 main_v6 main_v7 (cmpi .ne : (⟨S16384x128, .i32⟩ : BufTy).Contents (Elt F) → (⟨S16384x128, .i32⟩ : BufTy).Contents (Elt F) → (⟨S16384x128, .i1⟩ : BufTy).Contents (Elt F))
abbrev op_v8 : HloOp τ sig (Elt F) := StableHlo.reshape main_v3_1 main_v8 (rfl : (.f32 : EltTy) = .f32) shapeCasts_S2097152_S16384x128
abbrev op_c_3 : HloOp τ sig (Elt F) := StableHlo.nullary main_c_3 (constantI S_ 32 128#32)
theorem sub_c : (op_c (F := F)).bufs ⊆ arrays := show ({r_c} : Finset (DevRef τ sig)) ⊆ arrays by decide
theorem sub_c_0 : (op_c_0 (F := F)).bufs ⊆ arrays := show ({r_c_0} : Finset (DevRef τ sig)) ⊆ arrays by decide
theorem sub_c_1 : (op_c_1 (F := F)).bufs ⊆ arrays := show ({r_c_1} : Finset (DevRef τ sig)) ⊆ arrays by decide
theorem sub_v0 : (op_v0 (F := F)).bufs ⊆ arrays := show ({r_arg0, r_v0} : Finset (DevRef τ sig)) ⊆ arrays by decide
theorem sub_v1 : (op_v1 (F := F)).bufs ⊆ arrays := show ({r_arg2, r_v1} : Finset (DevRef τ sig)) ⊆ arrays by decide
theorem sub_v4 : (op_v4 (F := F)).bufs ⊆ arrays := show ({r_v3_0, r_v4} : Finset (DevRef τ sig)) ⊆ arrays by decide
theorem sub_v5 : (op_v5 (F := F)).bufs ⊆ arrays := show ({r_v3_2, r_v5} : Finset (DevRef τ sig)) ⊆ arrays by decide
theorem sub_c_2 : (op_c_2 (F := F)).bufs ⊆ arrays := show ({r_c_2} : Finset (DevRef τ sig)) ⊆ arrays by decide
theorem sub_v6 : (op_v6 (F := F)).bufs ⊆ arrays := show ({r_c_2, r_v6} : Finset (DevRef τ sig)) ⊆ arrays by decide
theorem sub_v7 : (op_v7 (F := F)).bufs ⊆ arrays := show ({r_v5, r_v6, r_v7} : Finset (DevRef τ sig)) ⊆ arrays by decide
theorem sub_v8 : (op_v8 (F := F)).bufs ⊆ arrays := show ({r_v3_1, r_v8} : Finset (DevRef τ sig)) ⊆ arrays by decide
theorem sub_c_3 : (op_c_3 (F := F)).bufs ⊆ arrays := show ({r_c_3} : Finset (DevRef τ sig)) ⊆ arrays by decide

/-- The contents before the calls. -/
abbrev ops1 : List (HloOp τ sig (Elt F)) := [StableHlo.nullary main_c (fun i => lit0 (S128.rowMajor i)), StableHlo.nullary main_c_0 (fun i => lit1 (S128.rowMajor i)), StableHlo.nullary main_c_1 (fun i => lit2 (S128.rowMajor i)), StableHlo.reshape main_arg0 main_v0 (rfl : (.f32 : EltTy) = .f32) shapeCasts_S16384x6_S98304, StableHlo.reshape main_arg2 main_v1 (rfl : (.f32 : EltTy) = .f32) shapeCasts_S1x2097152_S2097152]
def V5 : Valuation τ sig (Elt F) := after ops1 (V0 d m)

theorem V5_arg0 : V5 d m r_arg0 = V0 d m r_arg0 := by unfold V5; after_results_simp
theorem V5_arg1 : V5 d m r_arg1 = V0 d m r_arg1 := by unfold V5; after_results_simp
theorem V5_arg2 : V5 d m r_arg2 = V0 d m r_arg2 := by unfold V5; after_results_simp
theorem V5_c : V5 d m r_c = spread0 := by
  unfold V5; after_results_simp; rfl
theorem V5_c_0 : V5 d m r_c_0 = spread1 := by
  unfold V5; after_results_simp; rfl
theorem V5_c_1 : V5 d m r_c_1 = spread2 := by
  unfold V5; after_results_simp; rfl
theorem V5_v0 : V5 d m r_v0 = rays d m := by
  unfold V5; after_results_simp; rfl
theorem V5_v1 : V5 d m r_v1 = dens d m := by
  unfold V5; after_results_simp; rfl
theorem V5_v2 : V5 d m r_v2 = V0 d m r_v2 := by unfold V5; after_results_simp
theorem V5_v3_0 : V5 d m r_v3_0 = V0 d m r_v3_0 := by unfold V5; after_results_simp
theorem V5_v3_1 : V5 d m r_v3_1 = V0 d m r_v3_1 := by unfold V5; after_results_simp
theorem V5_v3_2 : V5 d m r_v3_2 = V0 d m r_v3_2 := by unfold V5; after_results_simp
theorem V5_v4 : V5 d m r_v4 = V0 d m r_v4 := by unfold V5; after_results_simp
theorem V5_v5 : V5 d m r_v5 = V0 d m r_v5 := by unfold V5; after_results_simp
theorem V5_c_2 : V5 d m r_c_2 = V0 d m r_c_2 := by unfold V5; after_results_simp
theorem V5_v6 : V5 d m r_v6 = V0 d m r_v6 := by unfold V5; after_results_simp
theorem V5_v7 : V5 d m r_v7 = V0 d m r_v7 := by unfold V5; after_results_simp
theorem V5_v8 : V5 d m r_v8 = V0 d m r_v8 := by unfold V5; after_results_simp
theorem V5_c_3 : V5 d m r_c_3 = V0 d m r_c_3 := by unfold V5; after_results_simp

/-- The contents after the calls. -/
def V6 : Valuation τ sig (Elt F) :=
  Function.update (Function.update (Function.update (Function.update (V5 d m) r_v2 (bits d m)) r_v3_0 (xyzVal (rays d m) (bits d m))) r_v3_1 (zVal (rays d m) (bits d m))) r_v3_2 (markVal (rays d m) (bits d m))

theorem V6_arg0 : V6 d m r_arg0 = V5 d m r_arg0 := (Function.update_of_ne (show r_arg0 ≠ r_v3_2 by decide) _ _).trans ((Function.update_of_ne (show r_arg0 ≠ r_v3_1 by decide) _ _).trans ((Function.update_of_ne (show r_arg0 ≠ r_v3_0 by decide) _ _).trans ((Function.update_of_ne (show r_arg0 ≠ r_v2 by decide) _ _).trans (rfl))))
theorem V6_arg1 : V6 d m r_arg1 = V5 d m r_arg1 := (Function.update_of_ne (show r_arg1 ≠ r_v3_2 by decide) _ _).trans ((Function.update_of_ne (show r_arg1 ≠ r_v3_1 by decide) _ _).trans ((Function.update_of_ne (show r_arg1 ≠ r_v3_0 by decide) _ _).trans ((Function.update_of_ne (show r_arg1 ≠ r_v2 by decide) _ _).trans (rfl))))
theorem V6_arg2 : V6 d m r_arg2 = V5 d m r_arg2 := (Function.update_of_ne (show r_arg2 ≠ r_v3_2 by decide) _ _).trans ((Function.update_of_ne (show r_arg2 ≠ r_v3_1 by decide) _ _).trans ((Function.update_of_ne (show r_arg2 ≠ r_v3_0 by decide) _ _).trans ((Function.update_of_ne (show r_arg2 ≠ r_v2 by decide) _ _).trans (rfl))))
theorem V6_c : V6 d m r_c = V5 d m r_c := (Function.update_of_ne (show r_c ≠ r_v3_2 by decide) _ _).trans ((Function.update_of_ne (show r_c ≠ r_v3_1 by decide) _ _).trans ((Function.update_of_ne (show r_c ≠ r_v3_0 by decide) _ _).trans ((Function.update_of_ne (show r_c ≠ r_v2 by decide) _ _).trans (rfl))))
theorem V6_c_0 : V6 d m r_c_0 = V5 d m r_c_0 := (Function.update_of_ne (show r_c_0 ≠ r_v3_2 by decide) _ _).trans ((Function.update_of_ne (show r_c_0 ≠ r_v3_1 by decide) _ _).trans ((Function.update_of_ne (show r_c_0 ≠ r_v3_0 by decide) _ _).trans ((Function.update_of_ne (show r_c_0 ≠ r_v2 by decide) _ _).trans (rfl))))
theorem V6_c_1 : V6 d m r_c_1 = V5 d m r_c_1 := (Function.update_of_ne (show r_c_1 ≠ r_v3_2 by decide) _ _).trans ((Function.update_of_ne (show r_c_1 ≠ r_v3_1 by decide) _ _).trans ((Function.update_of_ne (show r_c_1 ≠ r_v3_0 by decide) _ _).trans ((Function.update_of_ne (show r_c_1 ≠ r_v2 by decide) _ _).trans (rfl))))
theorem V6_v0 : V6 d m r_v0 = V5 d m r_v0 := (Function.update_of_ne (show r_v0 ≠ r_v3_2 by decide) _ _).trans ((Function.update_of_ne (show r_v0 ≠ r_v3_1 by decide) _ _).trans ((Function.update_of_ne (show r_v0 ≠ r_v3_0 by decide) _ _).trans ((Function.update_of_ne (show r_v0 ≠ r_v2 by decide) _ _).trans (rfl))))
theorem V6_v1 : V6 d m r_v1 = V5 d m r_v1 := (Function.update_of_ne (show r_v1 ≠ r_v3_2 by decide) _ _).trans ((Function.update_of_ne (show r_v1 ≠ r_v3_1 by decide) _ _).trans ((Function.update_of_ne (show r_v1 ≠ r_v3_0 by decide) _ _).trans ((Function.update_of_ne (show r_v1 ≠ r_v2 by decide) _ _).trans (rfl))))
theorem V6_v2 : V6 d m r_v2 = bits d m := (Function.update_of_ne (show r_v2 ≠ r_v3_2 by decide) _ _).trans ((Function.update_of_ne (show r_v2 ≠ r_v3_1 by decide) _ _).trans ((Function.update_of_ne (show r_v2 ≠ r_v3_0 by decide) _ _).trans (Function.update_self _ _ _)))
theorem V6_v3_0 : V6 d m r_v3_0 = xyzVal (rays d m) (bits d m) := (Function.update_of_ne (show r_v3_0 ≠ r_v3_2 by decide) _ _).trans ((Function.update_of_ne (show r_v3_0 ≠ r_v3_1 by decide) _ _).trans (Function.update_self _ _ _))
theorem V6_v3_1 : V6 d m r_v3_1 = zVal (rays d m) (bits d m) := (Function.update_of_ne (show r_v3_1 ≠ r_v3_2 by decide) _ _).trans (Function.update_self _ _ _)
theorem V6_v3_2 : V6 d m r_v3_2 = markVal (rays d m) (bits d m) := Function.update_self _ _ _
theorem V6_v4 : V6 d m r_v4 = V5 d m r_v4 := (Function.update_of_ne (show r_v4 ≠ r_v3_2 by decide) _ _).trans ((Function.update_of_ne (show r_v4 ≠ r_v3_1 by decide) _ _).trans ((Function.update_of_ne (show r_v4 ≠ r_v3_0 by decide) _ _).trans ((Function.update_of_ne (show r_v4 ≠ r_v2 by decide) _ _).trans (rfl))))
theorem V6_v5 : V6 d m r_v5 = V5 d m r_v5 := (Function.update_of_ne (show r_v5 ≠ r_v3_2 by decide) _ _).trans ((Function.update_of_ne (show r_v5 ≠ r_v3_1 by decide) _ _).trans ((Function.update_of_ne (show r_v5 ≠ r_v3_0 by decide) _ _).trans ((Function.update_of_ne (show r_v5 ≠ r_v2 by decide) _ _).trans (rfl))))
theorem V6_c_2 : V6 d m r_c_2 = V5 d m r_c_2 := (Function.update_of_ne (show r_c_2 ≠ r_v3_2 by decide) _ _).trans ((Function.update_of_ne (show r_c_2 ≠ r_v3_1 by decide) _ _).trans ((Function.update_of_ne (show r_c_2 ≠ r_v3_0 by decide) _ _).trans ((Function.update_of_ne (show r_c_2 ≠ r_v2 by decide) _ _).trans (rfl))))
theorem V6_v6 : V6 d m r_v6 = V5 d m r_v6 := (Function.update_of_ne (show r_v6 ≠ r_v3_2 by decide) _ _).trans ((Function.update_of_ne (show r_v6 ≠ r_v3_1 by decide) _ _).trans ((Function.update_of_ne (show r_v6 ≠ r_v3_0 by decide) _ _).trans ((Function.update_of_ne (show r_v6 ≠ r_v2 by decide) _ _).trans (rfl))))
theorem V6_v7 : V6 d m r_v7 = V5 d m r_v7 := (Function.update_of_ne (show r_v7 ≠ r_v3_2 by decide) _ _).trans ((Function.update_of_ne (show r_v7 ≠ r_v3_1 by decide) _ _).trans ((Function.update_of_ne (show r_v7 ≠ r_v3_0 by decide) _ _).trans ((Function.update_of_ne (show r_v7 ≠ r_v2 by decide) _ _).trans (rfl))))
theorem V6_v8 : V6 d m r_v8 = V5 d m r_v8 := (Function.update_of_ne (show r_v8 ≠ r_v3_2 by decide) _ _).trans ((Function.update_of_ne (show r_v8 ≠ r_v3_1 by decide) _ _).trans ((Function.update_of_ne (show r_v8 ≠ r_v3_0 by decide) _ _).trans ((Function.update_of_ne (show r_v8 ≠ r_v2 by decide) _ _).trans (rfl))))
theorem V6_c_3 : V6 d m r_c_3 = V5 d m r_c_3 := (Function.update_of_ne (show r_c_3 ≠ r_v3_2 by decide) _ _).trans ((Function.update_of_ne (show r_c_3 ≠ r_v3_1 by decide) _ _).trans ((Function.update_of_ne (show r_c_3 ≠ r_v3_0 by decide) _ _).trans ((Function.update_of_ne (show r_c_3 ≠ r_v2 by decide) _ _).trans (rfl))))

/-- The contents at the end. -/
abbrev ops2 : List (HloOp τ sig (Elt F)) := [StableHlo.reshape main_v3_0 main_v4 (rfl : (.f32 : EltTy) = .f32) shapeCasts_S6291456_S16384x128x3, StableHlo.reshape main_v3_2 main_v5 (rfl : (.i32 : EltTy) = .i32) shapeCasts_S2097152_S16384x128, StableHlo.nullary main_c_2 (constantI S_ 32 0#32), StableHlo.unary main_c_2 main_v6 (broadcastInDim S16384x128 ![] bcast_S_S16384x128 : (⟨S_, .i32⟩ : BufTy).Contents (Elt F) → (⟨S16384x128, .i32⟩ : BufTy).Contents (Elt F)), StableHlo.binary main_v5 main_v6 main_v7 (cmpi .ne : (⟨S16384x128, .i32⟩ : BufTy).Contents (Elt F) → (⟨S16384x128, .i32⟩ : BufTy).Contents (Elt F) → (⟨S16384x128, .i1⟩ : BufTy).Contents (Elt F)), StableHlo.reshape main_v3_1 main_v8 (rfl : (.f32 : EltTy) = .f32) shapeCasts_S2097152_S16384x128, StableHlo.nullary main_c_3 (constantI S_ 32 128#32)]
def V7 : Valuation τ sig (Elt F) := after ops2 (V6 d m)

/-- The four results. -/
def out_v4 : S16384x128x3.Idx → F .f32 := fun i => shapeCast S16384x128x3 (xyzVal (rays d m) (bits d m)) shapeCasts_S6291456_S16384x128x3 i
def out_v7 : S16384x128.Idx → BitVec 1 := cmpi .ne (fun i => shapeCast S16384x128 (markVal (rays d m) (bits d m)) shapeCasts_S2097152_S16384x128 i) (broadcastInDim S16384x128 ![] bcast_S_S16384x128 (constantI S_ 32 0#32))
def out_v8 : S16384x128.Idx → F .f32 := fun i => shapeCast S16384x128 (zVal (rays d m) (bits d m)) shapeCasts_S2097152_S16384x128 i

theorem V7_arg0 : V7 d m r_arg0 = m ((SparseCore.T d).loc main_arg0) := by
  refine (show V7 d m r_arg0 = V6 d m r_arg0 from by unfold V7; after_results_simp).trans ?_
  rw [V6_arg0, V5_arg0]; rfl
theorem V7_arg1 : V7 d m r_arg1 = m ((SparseCore.T d).loc main_arg1) := by
  refine (show V7 d m r_arg1 = V6 d m r_arg1 from by unfold V7; after_results_simp).trans ?_
  rw [V6_arg1, V5_arg1]; rfl
theorem V7_arg2 : V7 d m r_arg2 = m ((SparseCore.T d).loc main_arg2) := by
  refine (show V7 d m r_arg2 = V6 d m r_arg2 from by unfold V7; after_results_simp).trans ?_
  rw [V6_arg2, V5_arg2]; rfl
theorem V7_v4 : V7 d m r_v4 = out_v4 d m := by
  unfold V7; after_results_simp
  unfold out_v4; rw [← V6_v3_0]; rfl
theorem V7_v7 : V7 d m r_v7 = out_v7 d m := by
  unfold V7; after_results_simp
  unfold out_v7; rw [← V6_v3_2]; rfl
theorem V7_c_3 : V7 d m r_c_3 = constantI S_ 32 128#32 := by
  unfold V7; after_results_simp
theorem V7_v8 : V7 d m r_v8 = out_v8 d m := by
  unfold V7; after_results_simp
  unfold out_v8; rw [← V6_v3_1]; rfl

/-- What the program leaves the claim: the arguments unchanged and the results. -/
abbrev FIN (d : Dev nD) : sProp 𝕄 := iprop(((SparseCore.T d).loc main_arg0 ↦{fullShare} m (a0Loc d)) ∗ ((SparseCore.T d).loc main_arg1 ↦{fullShare} m (a1Loc d)) ∗ ((SparseCore.T d).loc main_arg2 ↦{fullShare} m (a2Loc d)) ∗ ((SparseCore.T d).loc main_v4 ↦{fullShare} out_v4 d m) ∗ ((SparseCore.T d).loc main_v7 ↦{fullShare} out_v7 d m) ∗ ((SparseCore.T d).loc main_c_3 ↦{fullShare} constantI S_ 32 128#32) ∗ ((SparseCore.T d).loc main_v8 ↦{fullShare} out_v8 d m))

theorem fin_of_held : (held (SparseCore.T d) arrays (V7 d m) : sProp 𝕄) ⊢ FIN m d := by
  rw [held_of d (V7 d m) (V7_arg0 d m) (V7_arg1 d m) (V7_arg2 d m) rfl rfl rfl rfl rfl rfl rfl rfl rfl (V7_v4 d m) rfl rfl rfl (V7_v7 d m) (V7_v8 d m) (V7_c_3 d m)]
  iintro ⟨Harg0, Harg1, Harg2, Hc, Hc_0, Hc_1, Hv0, Hv1, Hv2, Hv3_0, Hv3_1, Hv3_2, Hv4, Hv5, Hc_2, Hv6, Hv7, Hv8, Hc_3⟩
  isplitl [Harg0]; · iexact Harg0
  isplitl [Harg1]; · iexact Harg1
  isplitl [Harg2]; · iexact Harg2
  isplitl [Hv4]; · iexact Hv4
  isplitl [Hv7]; · iexact Hv7
  isplitl [Hc_3]; · iexact Hc_3
  iexact Hv8

theorem held_V5 : (held (SparseCore.T d) arrays (V5 d m) : sProp 𝕄) = iprop(((SparseCore.T d).loc main_arg0 ↦{fullShare} V0 d m r_arg0) ∗ ((SparseCore.T d).loc main_arg1 ↦{fullShare} V0 d m r_arg1) ∗ ((SparseCore.T d).loc main_arg2 ↦{fullShare} V0 d m r_arg2) ∗ ((SparseCore.T d).loc main_c ↦{fullShare} spread0) ∗ ((SparseCore.T d).loc main_c_0 ↦{fullShare} spread1) ∗ ((SparseCore.T d).loc main_c_1 ↦{fullShare} spread2) ∗ ((SparseCore.T d).loc main_v0 ↦{fullShare} rays d m) ∗ ((SparseCore.T d).loc main_v1 ↦{fullShare} dens d m) ∗ ((SparseCore.T d).loc main_v2 ↦{fullShare} V0 d m r_v2) ∗ ((SparseCore.T d).loc main_v3_0 ↦{fullShare} V0 d m r_v3_0) ∗ ((SparseCore.T d).loc main_v3_1 ↦{fullShare} V0 d m r_v3_1) ∗ ((SparseCore.T d).loc main_v3_2 ↦{fullShare} V0 d m r_v3_2) ∗ ((SparseCore.T d).loc main_v4 ↦{fullShare} V0 d m r_v4) ∗ ((SparseCore.T d).loc main_v5 ↦{fullShare} V0 d m r_v5) ∗ ((SparseCore.T d).loc main_c_2 ↦{fullShare} V0 d m r_c_2) ∗ ((SparseCore.T d).loc main_v6 ↦{fullShare} V0 d m r_v6) ∗ ((SparseCore.T d).loc main_v7 ↦{fullShare} V0 d m r_v7) ∗ ((SparseCore.T d).loc main_v8 ↦{fullShare} V0 d m r_v8) ∗ ((SparseCore.T d).loc main_c_3 ↦{fullShare} V0 d m r_c_3)) :=
  held_of d (V5 d m) (V5_arg0 d m) (V5_arg1 d m) (V5_arg2 d m) (V5_c d m) (V5_c_0 d m) (V5_c_1 d m) (V5_v0 d m) (V5_v1 d m) (V5_v2 d m) (V5_v3_0 d m) (V5_v3_1 d m) (V5_v3_2 d m) (V5_v4 d m) (V5_v5 d m) (V5_c_2 d m) (V5_v6 d m) (V5_v7 d m) (V5_v8 d m) (V5_c_3 d m)

theorem held_V5' : (held (SparseCore.T d) arrays ((op_v1 (F := F)).result ((op_v0 (F := F)).result ((op_c_1 (F := F)).result ((op_c_0 (F := F)).result ((op_c (F := F)).result (V0 d m)))))) : sProp 𝕄) = iprop(((SparseCore.T d).loc main_arg0 ↦{fullShare} V0 d m r_arg0) ∗ ((SparseCore.T d).loc main_arg1 ↦{fullShare} V0 d m r_arg1) ∗ ((SparseCore.T d).loc main_arg2 ↦{fullShare} V0 d m r_arg2) ∗ ((SparseCore.T d).loc main_c ↦{fullShare} spread0) ∗ ((SparseCore.T d).loc main_c_0 ↦{fullShare} spread1) ∗ ((SparseCore.T d).loc main_c_1 ↦{fullShare} spread2) ∗ ((SparseCore.T d).loc main_v0 ↦{fullShare} rays d m) ∗ ((SparseCore.T d).loc main_v1 ↦{fullShare} dens d m) ∗ ((SparseCore.T d).loc main_v2 ↦{fullShare} V0 d m r_v2) ∗ ((SparseCore.T d).loc main_v3_0 ↦{fullShare} V0 d m r_v3_0) ∗ ((SparseCore.T d).loc main_v3_1 ↦{fullShare} V0 d m r_v3_1) ∗ ((SparseCore.T d).loc main_v3_2 ↦{fullShare} V0 d m r_v3_2) ∗ ((SparseCore.T d).loc main_v4 ↦{fullShare} V0 d m r_v4) ∗ ((SparseCore.T d).loc main_v5 ↦{fullShare} V0 d m r_v5) ∗ ((SparseCore.T d).loc main_c_2 ↦{fullShare} V0 d m r_c_2) ∗ ((SparseCore.T d).loc main_v6 ↦{fullShare} V0 d m r_v6) ∗ ((SparseCore.T d).loc main_v7 ↦{fullShare} V0 d m r_v7) ∗ ((SparseCore.T d).loc main_v8 ↦{fullShare} V0 d m r_v8) ∗ ((SparseCore.T d).loc main_c_3 ↦{fullShare} V0 d m r_c_3)) := held_V5 d m

theorem fin_of_held' : (held (SparseCore.T d) arrays ((op_c_3 (F := F)).result ((op_v8 (F := F)).result ((op_v7 (F := F)).result ((op_v6 (F := F)).result ((op_c_2 (F := F)).result ((op_v5 (F := F)).result ((op_v4 (F := F)).result (V6 d m)))))))) : sProp 𝕄) ⊢ FIN m d := fin_of_held d m

theorem held_V6 : (held (SparseCore.T d) arrays (V6 d m) : sProp 𝕄) = iprop(((SparseCore.T d).loc main_arg0 ↦{fullShare} V0 d m r_arg0) ∗ ((SparseCore.T d).loc main_arg1 ↦{fullShare} V0 d m r_arg1) ∗ ((SparseCore.T d).loc main_arg2 ↦{fullShare} V0 d m r_arg2) ∗ ((SparseCore.T d).loc main_c ↦{fullShare} spread0) ∗ ((SparseCore.T d).loc main_c_0 ↦{fullShare} spread1) ∗ ((SparseCore.T d).loc main_c_1 ↦{fullShare} spread2) ∗ ((SparseCore.T d).loc main_v0 ↦{fullShare} rays d m) ∗ ((SparseCore.T d).loc main_v1 ↦{fullShare} dens d m) ∗ ((SparseCore.T d).loc main_v2 ↦{fullShare} bits d m) ∗ ((SparseCore.T d).loc main_v3_0 ↦{fullShare} xyzVal (rays d m) (bits d m)) ∗ ((SparseCore.T d).loc main_v3_1 ↦{fullShare} zVal (rays d m) (bits d m)) ∗ ((SparseCore.T d).loc main_v3_2 ↦{fullShare} markVal (rays d m) (bits d m)) ∗ ((SparseCore.T d).loc main_v4 ↦{fullShare} V0 d m r_v4) ∗ ((SparseCore.T d).loc main_v5 ↦{fullShare} V0 d m r_v5) ∗ ((SparseCore.T d).loc main_c_2 ↦{fullShare} V0 d m r_c_2) ∗ ((SparseCore.T d).loc main_v6 ↦{fullShare} V0 d m r_v6) ∗ ((SparseCore.T d).loc main_v7 ↦{fullShare} V0 d m r_v7) ∗ ((SparseCore.T d).loc main_v8 ↦{fullShare} V0 d m r_v8) ∗ ((SparseCore.T d).loc main_c_3 ↦{fullShare} V0 d m r_c_3)) :=
  held_of d (V6 d m) ((V6_arg0 d m).trans (V5_arg0 d m)) ((V6_arg1 d m).trans (V5_arg1 d m)) ((V6_arg2 d m).trans (V5_arg2 d m)) ((V6_c d m).trans (V5_c d m)) ((V6_c_0 d m).trans (V5_c_0 d m)) ((V6_c_1 d m).trans (V5_c_1 d m)) ((V6_v0 d m).trans (V5_v0 d m)) ((V6_v1 d m).trans (V5_v1 d m)) (V6_v2 d m) (V6_v3_0 d m) (V6_v3_1 d m) (V6_v3_2 d m) ((V6_v4 d m).trans (V5_v4 d m)) ((V6_v5 d m).trans (V5_v5 d m)) ((V6_c_2 d m).trans (V5_c_2 d m)) ((V6_v6 d m).trans (V5_v6 d m)) ((V6_v7 d m).trans (V5_v7 d m)) ((V6_v8 d m).trans (V5_v8 d m)) ((V6_c_3 d m).trans (V5_c_3 d m))

/-- @main on a device's TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op_c) (S := arrays) sub_c) $$ [Hb Hheld]
  · isplitl [Hb]; · iexact Hb
    iexact Hheld
  iintro ⟨Hb, Hheld⟩
  rw [wp_ret]; imodintro
  iapply (wp_hlo_within 𝒱 (SparseCore.T d) none Set.univ (op := op_c_0) (S := arrays) sub_c_0) $$ [Hb Hheld]
  · isplitl [Hb]; · iexact Hb
    iexact Hheld
  iintro ⟨Hb, Hheld⟩
  rw [wp_ret]; imodintro
  iapply (wp_hlo_within 𝒱 (SparseCore.T d) none Set.univ (op := op_c_1) (S := arrays) sub_c_1) $$ [Hb Hheld]
  · isplitl [Hb]; · iexact Hb
    iexact Hheld
  iintro ⟨Hb, Hheld⟩
  rw [wp_ret]; imodintro
  iapply (wp_hlo_within 𝒱 (SparseCore.T d) none Set.univ (op := op_v0) (S := arrays) sub_v0) $$ [Hb Hheld]
  · isplitl [Hb]; · iexact Hb
    iexact Hheld
  iintro ⟨Hb, Hheld⟩
  rw [wp_ret]; imodintro
  iapply (wp_hlo_within 𝒱 (SparseCore.T d) none Set.univ (op := op_v1) (S := arrays) sub_v1) $$ [Hb Hheld]
  · isplitl [Hb]; · iexact Hb
    iexact Hheld
  iintro ⟨Hb, Hheld⟩
  rw [wp_ret]; imodintro
  ihave Hh := (Entails.of_eq (held_V5' (F := F) d m)) $$ Hheld
  icases Hh with ⟨Harg0, Harg1, Harg2, Hc, Hc_0, Hc_1, Hv0, Hv1, Hv2, Hv3_0, Hv3_1, Hv3_2, Hv4, Hv5, Hc_2, Hv6, Hv7, Hv8, Hc_3⟩
  iapply ((K (F := F)).wp_run (D (F := F)) 𝒱 (EH := EH) (P := P m) κ d 0) $$ [Hst Hb Hts Harg0 Harg1 Harg2 Hc Hc_0 Hc_1 Hv0 Hv1 Hv2 Hv3_0 Hv3_1 Hv3_2 Hv4 Hv5 Hc_2 Hv6 Hv7 Hv8 Hc_3]
  isplitr; · iexact Hctx
  isplitl [Hst]; · iexact Hst
  isplitl [Hv1 Hv2]
  · iapply (start0 d m _)
    isplitl [Hv1]; · iexact Hv1
    iexact Hv2
  iintro ⟨Hst, Hdn⟩
  ihave Hdn' := (done0 d m) $$ Hdn
  icases Hdn' with ⟨Hv1, Hv2⟩
  iapply ((K (F := F)).wp_run (D (F := F)) 𝒱 (EH := EH) (P := P m) κ d 1) $$ [Hst Hb Hts Harg0 Harg1 Harg2 Hc Hc_0 Hc_1 Hv0 Hv1 Hv2 Hv3_0 Hv3_1 Hv3_2 Hv4 Hv5 Hc_2 Hv6 Hv7 Hv8 Hc_3]
  isplitr; · iexact Hctx
  isplitl [Hst]; · iexact Hst
  isplitl [Hv0 Hv2 Hc Hc_0 Hc_1 Hv3_0 Hv3_1 Hv3_2]
  · iapply (start1 d m _ _ _)
    isplitr [Hv3_0 Hv3_1 Hv3_2]
    · unfold shared
      isplitl [Hv0]; · iexact Hv0
      isplitl [Hv2]; · iexact Hv2
      isplitl [Hc]; · iexact Hc
      isplitl [Hc_0]; · iexact Hc_0
      iexact Hc_1
    isplitl [Hv3_0]; · iexact Hv3_0
    isplitl [Hv3_1]; · iexact Hv3_1
    iexact Hv3_2
  iintro ⟨Hst, Hdn⟩
  ihave Hdn' := (done1 d m) $$ Hdn
  unfold shared
  icases Hdn' with ⟨⟨Hv0, Hv2, Hc, Hc_0, Hc_1⟩, Hv3_0, Hv3_1, Hv3_2⟩
  ihave Hheld := (Entails.of_eq (held_V6 (F := F) d m).symm) $$ [Harg0 Harg1 Harg2 Hc Hc_0 Hc_1 Hv0 Hv1 Hv2 Hv3_0 Hv3_1 Hv3_2 Hv4 Hv5 Hc_2 Hv6 Hv7 Hv8 Hc_3]
  · isplitl [Harg0]; · iexact Harg0
    isplitl [Harg1]; · iexact Harg1
    isplitl [Harg2]; · iexact Harg2
    isplitl [Hc]; · iexact Hc
    isplitl [Hc_0]; · iexact Hc_0
    isplitl [Hc_1]; · iexact Hc_1
    isplitl [Hv0]; · iexact Hv0
    isplitl [Hv1]; · iexact Hv1
    isplitl [Hv2]; · iexact Hv2
    isplitl [Hv3_0]; · iexact Hv3_0
    isplitl [Hv3_1]; · iexact Hv3_1
    isplitl [Hv3_2]; · iexact Hv3_2
    isplitl [Hv4]; · iexact Hv4
    isplitl [Hv5]; · iexact Hv5
    isplitl [Hc_2]; · iexact Hc_2
    isplitl [Hv6]; · iexact Hv6
    isplitl [Hv7]; · iexact Hv7
    isplitl [Hv8]; · iexact Hv8
    iexact Hc_3
  iapply (wp_hlo_within 𝒱 (SparseCore.T d) none Set.univ (op := op_v4) (S := arrays) sub_v4) $$ [Hb Hheld]
  · isplitl [Hb]; · iexact Hb
    iexact Hheld
  iintro ⟨Hb, Hheld⟩
  rw [wp_ret]; imodintro
  iapply (wp_hlo_within 𝒱 (SparseCore.T d) none Set.univ (op := op_v5) (S := arrays) sub_v5) $$ [Hb Hheld]
  · isplitl [Hb]; · iexact Hb
    iexact Hheld
  iintro ⟨Hb, Hheld⟩
  rw [wp_ret]; imodintro
  iapply (wp_hlo_within 𝒱 (SparseCore.T d) none Set.univ (op := op_c_2) (S := arrays) sub_c_2) $$ [Hb Hheld]
  · isplitl [Hb]; · iexact Hb
    iexact Hheld
  iintro ⟨Hb, Hheld⟩
  rw [wp_ret]; imodintro
  iapply (wp_hlo_within 𝒱 (SparseCore.T d) none Set.univ (op := op_v6) (S := arrays) sub_v6) $$ [Hb Hheld]
  · isplitl [Hb]; · iexact Hb
    iexact Hheld
  iintro ⟨Hb, Hheld⟩
  rw [wp_ret]; imodintro
  iapply (wp_hlo_within 𝒱 (SparseCore.T d) none Set.univ (op := op_v7) (S := arrays) sub_v7) $$ [Hb Hheld]
  · isplitl [Hb]; · iexact Hb
    iexact Hheld
  iintro ⟨Hb, Hheld⟩
  rw [wp_ret]; imodintro
  iapply (wp_hlo_within 𝒱 (SparseCore.T d) none Set.univ (op := op_v8) (S := arrays) sub_v8) $$ [Hb Hheld]
  · isplitl [Hb]; · iexact Hb
    iexact Hheld
  iintro ⟨Hb, Hheld⟩
  rw [wp_ret]; imodintro
  iapply (wp_hlo_within 𝒱 (SparseCore.T d) none Set.univ (op := op_c_3) (S := arrays) sub_c_3) $$ [Hb Hheld]
  · isplitl [Hb]; · iexact Hb
    iexact Hheld
  iintro ⟨Hb, Hheld⟩
  rw [wp_ret]; imodintro
  imodintro
  isplitl [Hst]; · iexact Hst
  isplitr [Hb Hts]
  · iapply (fin_of_held' d m); iexact Hheld
  isplitl [Hb] <;> iassumption

def fq (d : Dev nD) (s' : Phys nD τ sig (Elt F)) : Prop :=
  s'.mem.mem ((SparseCore.T d).loc main_arg0) = m (a0Loc d) ∧ s'.mem.mem ((SparseCore.T d).loc main_arg1) = m (a1Loc d) ∧ s'.mem.mem ((SparseCore.T d).loc main_arg2) = m (a2Loc d) ∧ s'.mem.mem ((SparseCore.T d).loc main_v4) = out_v4 d m ∧ s'.mem.mem ((SparseCore.T d).loc main_v7) = out_v7 d m ∧ s'.mem.mem ((SparseCore.T d).loc main_c_3) = constantI S_ 32 128#32 ∧ s'.mem.mem ((SparseCore.T d).loc main_v8) = out_v8 d m

theorem hfin (d : Dev nD) (s' : Phys nD τ sig (Elt F)) : iprop(FIN m d ∗ SI s') ⊢ (⌜fq m d s'⌝ : sProp 𝕄) := by
  iintro ⟨⟨Harg0, Harg1, Harg2, Hv4, Hv7, Hc_3, Hv8⟩, HSI⟩
  ihave H := (persistent_entails_right (SI_pointsTo_agree (st := s') (ℓ := (SparseCore.T d).loc main_arg0) (I := Finset.univ) (q := fullShare) (f := m (a0Loc d)))) $$ [HSI Harg0]
  · isplitl [HSI] <;> iassumption
  icases H with ⟨%harg0, HSI, -⟩
  ihave H := (persistent_entails_right (SI_pointsTo_agree (st := s') (ℓ := (SparseCore.T d).loc main_arg1) (I := Finset.univ) (q := fullShare) (f := m (a1Loc d)))) $$ [HSI Harg1]
  · isplitl [HSI] <;> iassumption
  icases H with ⟨%harg1, HSI, -⟩
  ihave H := (persistent_entails_right (SI_pointsTo_agree (st := s') (ℓ := (SparseCore.T d).loc main_arg2) (I := Finset.univ) (q := fullShare) (f := m (a2Loc d)))) $$ [HSI Harg2]
  · isplitl [HSI] <;> iassumption
  icases H with ⟨%harg2, HSI, -⟩
  ihave H := (persistent_entails_right (SI_pointsTo_agree (st := s') (ℓ := (SparseCore.T d).loc main_v4) (I := Finset.univ) (q := fullShare) (f := out_v4 d m))) $$ [HSI Hv4]
  · isplitl [HSI] <;> iassumption
  icases H with ⟨%hv4, HSI, -⟩
  ihave H := (persistent_entails_right (SI_pointsTo_agree (st := s') (ℓ := (SparseCore.T d).loc main_v7) (I := Finset.univ) (q := fullShare) (f := out_v7 d m))) $$ [HSI Hv7]
  · isplitl [HSI] <;> iassumption
  icases H with ⟨%hv7, HSI, -⟩
  ihave H := (persistent_entails_right (SI_pointsTo_agree (st := s') (ℓ := (SparseCore.T d).loc main_c_3) (I := Finset.univ) (q := fullShare) (f := constantI S_ 32 128#32))) $$ [HSI Hc_3]
  · isplitl [HSI] <;> iassumption
  icases H with ⟨%hc_3, HSI, -⟩
  ihave H := (SI_pointsTo_agree (st := s') (ℓ := (SparseCore.T d).loc main_v8) (I := Finset.univ) (q := fullShare) (f := out_v8 d m)) $$ [HSI Hv8]
  · isplitl [HSI] <;> iassumption
  icases H with %hv8
  ipureintro
  exact ⟨funext fun i => harg0 i (Finset.mem_univ i), funext fun i => harg1 i (Finset.mem_univ i), funext fun i => harg2 i (Finset.mem_univ i), funext fun i => hv4 i (Finset.mem_univ i), funext fun i => hv7 i (Finset.mem_univ i), funext fun i => hc_3 i (Finset.mem_univ i), funext fun i => hv8 i (Finset.mem_univ i)⟩

/-! ## The launch element and the run -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

def QC : PUnit × MemSt nD τ sig (Elt F) → Prop := fun r => (∀ d : Dev nD,
  r.2.mem ((SparseCore.T d).loc main_arg0) = m (a0Loc d) ∧ r.2.mem ((SparseCore.T d).loc main_arg1) = m (a1Loc d) ∧ r.2.mem ((SparseCore.T d).loc main_arg2) = m (a2Loc d) ∧ r.2.mem ((SparseCore.T d).loc main_v4) = out_v4 d m ∧ r.2.mem ((SparseCore.T d).loc main_v7) = out_v7 d m ∧ r.2.mem ((SparseCore.T d).loc main_c_3) = constantI S_ 32 128#32 ∧ r.2.mem ((SparseCore.T d).loc main_v8) = out_v8 d m) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m facts | 1 => tileObl1 m facts)
    (fun q _ => match q with | 0 => SparseCore.Cfg.VecSplit.of_plain (vecSplit0 m) | 1 => SparseCore.Cfg.VecSplit.of_plain (vecSplit1 m))
    m ρ main (fun _ => iprop(emp)) (FIN m) (u₀ (F := F)) (sep_elim_left.trans (hu₀ m)) (hmain m ρ) (fq m) (hfin m) (QC m) (fun _ h hz => ⟨h, hz⟩)

end Run

end Cert.Proof.March
end
-- ==== Proof.Frames.lean ====
/-
  The frames: the two readings of the kernel, and the reference.
-/
module

public import proofs.«01_k».proof.Proof.MarchRun
public import proofs.«01_k».proof.Defs
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.SL.Sem

/-- The kernel over the reals. -/
theorem frame_ideal : Cert.quiescent_KernelIdeal := fun m ρ _ =>
  (θ_run (Cert.KernelIdeal.defs (F := Ideal)) (Cert.KernelIdeal.threads (F := Ideal)) _).mono
    (fun _ h => ⟨fun c => ⟨(h.1 c).1, (h.1 c).2.1, (h.1 c).2.2.1⟩, h.2⟩) (March.run_main (F := Ideal) m ρ)

/-- The kernel on words: its text is the idealized program's. -/
theorem frame_bits : Cert.quiescent_Kernel := fun m ρ _ =>
  (θ_run (Cert.KernelIdeal.defs (F := Bits)) (Cert.KernelIdeal.threads (F := Bits)) _).mono
    (fun _ h => ⟨fun c => ⟨(h.1 c).1, (h.1 c).2.1, (h.1 c).2.2.1⟩, h.2⟩) (March.run_main (F := Bits) m ρ)

/-- The reference. -/
theorem frame_reference : Cert.quiescent_ReferenceIdeal := fun m ρ _ =>
  (θ_run (Cert.ReferenceIdeal.defs (F := Ideal)) _ _).mono
    (fun r h => ⟨fun c => ⟨(h c).2.2.2.2.1, (h c).2.2.2.2.2.1, (h c).2.2.2.2.2.2⟩, sem_eq_zero_of_no_sems (by decide) r.2⟩)
    (Cert.ReferenceIdeal.Value.run (F := Ideal) m ρ)

end Cert.Proof
end
-- ==== Proof.Results.lean ====
/-
  The kernel's results, read at an index, and the rays and densities that they are made from.
-/
module

public import proofs.«01_k».proof.Proof.MarchRun
public import Idealize.ShloMosaic.Lib.Pointwise

@[expose] public section

noncomputable section

namespace Cert.Proof.March

open Cert.KernelIdeal Cert.KernelIdeal.Gen
open Idealize.ShloMosaic

variable {F : FTy → Type} [FloatOps F] (d : Dev nD) (m : (ℓ : Loc nD τ sig) → Buf (Elt F) ℓ)

theorem cast2_at {A : Type} (x : S2097152.Idx → A) (r : Fin 16384) (s : Fin 128) : shapeCast S16384x128 x shapeCasts_S2097152_S16384x128 (ix2 r s) = x (ix1 ⟨r.val * 128 + s.val, by omega⟩) := by
  pointwise

theorem cast3_at {A : Type} (x : S6291456.Idx → A) (r : Fin 16384) (s : Fin 128) (j : Fin 3) : shapeCast S16384x128x3 x shapeCasts_S6291456_S16384x128x3 (ix3 r s j) = x (ix1 ⟨(r.val * 128 + s.val) * 3 + j.val, by omega⟩) := by
  have e : (⟨(r.val * 128 + s.val) * 3 + j.val, by omega⟩ : Fin 6291456) = ⟨r.val * 384 + s.val * 3 + j.val, by omega⟩ := Fin.ext (by show (r.val * 128 + s.val) * 3 + j.val = r.val * 384 + s.val * 3 + j.val; omega)
  rw [e]
  pointwise

theorem castR_at {A : Type} (x : S16384x6.Idx → A) (r : Fin 16384) (j : Fin 6) : shapeCast S98304 x shapeCasts_S16384x6_S98304 (ix1 ⟨6 * r.val + j.val, by omega⟩) = x (ix2 r j) := by
  pointwise

/-- A ray, as the argument holds it. -/
theorem rayOf_rays (r : Fin 16384) : rayOf (rays d m) r.val = fun j : Fin 6 => (m (a0Loc d) : S16384x6.Idx → F .f32) (ix2 r j) := by
  funext j
  refine (eq_nth (rays d m) (ix1 ⟨6 * r.val + j.val, by omega⟩) rfl).symm.trans ?_
  exact castR_at (m (a0Loc d) : S16384x6.Idx → F .f32) r j

/-- The times. -/
theorem out_v8_at (r : Fin 16384) (s : Fin 128) :
    out_v8 d m (ix2 r s) = Scalar.select (counts (bits d m) (rayOf (rays d m) r.val) s.val) (time (rayOf (rays d m) r.val) s.val) (FloatOps.ofBits .f32 0x00000000#32) := by
  unfold out_v8
  rw [cast2_at]
  show zFrom (bits d m) (rayOf (rays d m)) (r.val * 128 + s.val) = _
  unfold zFrom
  have e1 : (r.val * 128 + s.val) / 128 = r.val := by omega
  have e2 : (r.val * 128 + s.val) % 128 = s.val := by omega
  rw [e1, e2]

/-- A flag as a number is zero when the flag is. -/
theorem mark_back (b : BitVec 1) : IntOp.cmpi .ne (b.setWidth 32) 0#32 = b := by revert b; decide

/-- The marks. -/
theorem out_v7_at (r : Fin 16384) (s : Fin 128) : out_v7 d m (ix2 r s) = counts (bits d m) (rayOf (rays d m) r.val) s.val := by
  unfold out_v7
  show IntOp.cmpi .ne (shapeCast S16384x128 (markVal (rays d m) (bits d m)) shapeCasts_S2097152_S16384x128 (ix2 r s)) 0#32 = _
  rw [cast2_at]
  show IntOp.cmpi .ne (markFrom (bits d m) (rayOf (rays d m)) (r.val * 128 + s.val)) 0#32 = _
  unfold markFrom
  have e1 : (r.val * 128 + s.val) / 128 = r.val := by omega
  have e2 : (r.val * 128 + s.val) % 128 = s.val := by omega
  rw [e1, e2, mark_back]

/-- The points. -/
theorem out_v4_at (r : Fin 16384) (s : Fin 128) (j : Fin 3) :
    out_v4 d m (ix3 r s j) = Scalar.select (counts (bits d m) (rayOf (rays d m) r.val) s.val) (point (rayOf (rays d m) r.val) s.val j) (FloatOps.ofBits .f32 0x00000000#32) := by
  unfold out_v4
  rw [cast3_at]
  show xyzFrom (bits d m) (rayOf (rays d m)) ((r.val * 128 + s.val) * 3 + j.val) = _
  unfold xyzFrom
  have e1 : ((r.val * 128 + s.val) * 3 + j.val) / 384 = r.val := by omega
  have e2 : ((r.val * 128 + s.val) * 3 + j.val) % 384 / 3 = s.val := by omega
  have e3 : (⟨((r.val * 128 + s.val) * 3 + j.val) % 3, Nat.mod_lt _ (by decide)⟩ : Fin 3) = j := Fin.ext (by show ((r.val * 128 + s.val) * 3 + j.val) % 3 = j.val; omega)
  rw [e1, e2, e3]

end Cert.Proof.March
end
-- ==== Proof.RefRay.lean ====
/-
  The reference, read at an index: its rays' numbers, its points, its cells and their numbers are the march's.
-/
module

public import proofs.«01_k».proof.Proof.MarchVal
public import proofs.«01_k».proof.Proof.Gen.ReferenceIdeal.Run
public import Idealize.ShloMosaic.Lib.Pointwise

@[expose] public section

noncomputable section

namespace Cert.Proof.Ref

open Cert.ReferenceIdeal Cert.ReferenceIdeal.Gen Cert.ReferenceIdeal.Value Idealize.ShloMosaic Idealize.SL.Sem
open Cert.Proof.March (nth nth_of_lt Ray recip lower upper enter leave near far time point cellLow cell)

variable (V : Valuation τ sig (Elt Ideal))

/-- Ray `r` of the argument. -/
def ray (r : Fin 16384) : Ray Ideal := fun j => (V (Proc.devRef .tc main_arg0) : FVec Ideal S16384x6 .f32) (ix2 r j)

theorem v0_at (r : Fin 16384) (j : Fin 3) : (res_main_v0 V : FVec Ideal S16384x3 .f32) (ix2 r j) = ray V r ⟨j.val, by omega⟩ := by
  unfold res_main_v0 ray
  pointwise

theorem v1_at (r : Fin 16384) (j : Fin 3) : (res_main_v1 V : FVec Ideal S16384x3 .f32) (ix2 r j) = ray V r ⟨j.val + 3, by omega⟩ := by
  unfold res_main_v1 ray
  pointwise
  simp only [Nat.add_comm 3]

theorem v7_at (r : Fin 16384) (j : Fin 3) : (res_main_v7 V : FVec Ideal S16384x3 .f32) (ix2 r j) = recip (ray V r ⟨j.val, by omega⟩) := by
  unfold res_main_v7 recip
  rw [← v0_at]
  rfl

theorem v10_at (r : Fin 16384) (j : Fin 3) : (res_main_v10 V : FVec Ideal S16384x3 .f32) (ix2 r j) = lower (ray V r) j := by
  unfold res_main_v10 lower
  rw [← v7_at, ← v1_at]
  rfl

theorem v13_at (r : Fin 16384) (j : Fin 3) : (res_main_v13 V : FVec Ideal S16384x3 .f32) (ix2 r j) = upper (ray V r) j := by
  unfold res_main_v13 upper
  rw [← v7_at, ← v1_at]
  rfl

/-- A greatest of three, started from minus infinity. -/
theorem fold_max (f : Fin 3 → EReal) : (Finset.univ : Finset (Fin 3)).fold max ⊥ f = max (max (f 0) (f 1)) (f 2) := by
  rw [show (Finset.univ : Finset (Fin 3)) = {0, 1, 2} by decide, Finset.fold_insert (by decide), Finset.fold_insert (by decide), Finset.fold_singleton,
    max_bot_right, max_assoc]

/-- A least of three, started from infinity. -/
theorem fold_min (f : Fin 3 → EReal) : (Finset.univ : Finset (Fin 3)).fold min ⊤ f = min (min (f 0) (f 1)) (f 2) := by
  rw [show (Finset.univ : Finset (Fin 3)) = {0, 1, 2} by decide, Finset.fold_insert (by decide), Finset.fold_insert (by decide), Finset.fold_singleton,
    min_top_right, min_assoc]

theorem word_bot : Ideal.ofBits FTy.f32 0xFF800000#32 = ⊥ := by
  simp [Ideal.ofBits, Ideal.ieee]

theorem word_top : Ideal.ofBits FTy.f32 0x7F800000#32 = ⊤ := by
  simp [Ideal.ofBits, Ideal.ieee]

theorem v15_at (r : Fin 16384) : (res_main_v15 V : FVec Ideal S16384 .f32) (ix1 r) = enter (ray V r) := by
  unfold res_main_v15 enter
  pointwise
  refine (Shape.ReducesTo.fold_fiber_r2_a1 _ _ (max : EReal → EReal → EReal) _ _).trans ?_
  rw [word_bot, fold_max]
  simp only [← v10_at, ← v13_at]
  rfl

theorem v17_at (r : Fin 16384) : (res_main_v17 V : FVec Ideal S16384 .f32) (ix1 r) = leave (ray V r) := by
  unfold res_main_v17 leave
  pointwise
  refine (Shape.ReducesTo.fold_fiber_r2_a1 _ _ (min : EReal → EReal → EReal) _ _).trans ?_
  rw [word_top, fold_min]
  simp only [← v10_at, ← v13_at]
  rfl

theorem v19_at (r : Fin 16384) : (res_main_v19 V : FVec Ideal S16384 .f32) (ix1 r) = near (ray V r) := by
  unfold res_main_v19 near
  rw [← v15_at]
  rfl

theorem v34_at (r : Fin 16384) (s : Fin 128) : (res_main_v34 V : FVec Ideal S16384x128 .f32) (ix2 r s) = time (ray V r) s.val := by
  unfold res_main_v34 time
  pointwise
  rw [v19_at]
  rfl

theorem v45_at (r : Fin 16384) (s : Fin 128) (j : Fin 3) : (res_main_v45 V : FVec Ideal S16384x128x3 .f32) (ix3 r s j) = point (ray V r) s.val j := by
  unfold res_main_v45 point
  pointwise
  rw [v0_at, v1_at, v34_at]

theorem word_one : Ideal.ofBits FTy.f32 0x3F800000#32 = 1 := by
  pointwise

theorem div_word_one (x : EReal) : Ideal.div x 1 = x := by
  simp [Ideal.div]

theorem v56_at (r : Fin 16384) (s : Fin 128) (j : Fin 3) : (res_main_v56 V : IVec S16384x128x3 32) (ix3 r s j) = cell (point (ray V r) s.val j) := by
  unfold res_main_v56 cell cellLow
  pointwise
  rw [div_word_one, v45_at]
  simp only [id, constantI, constant, Ideal.ofBits_def, word_one]

theorem v58_at (r : Fin 16384) (s : Fin 128) : (res_main_v58 V : IVec S16384x128 32) (ix2 r s) = cell (point (ray V r) s.val 0) := by
  unfold res_main_v58
  pointwise
  rw [v56_at]

theorem v60_at (r : Fin 16384) (s : Fin 128) : (res_main_v60 V : IVec S16384x128 32) (ix2 r s) = cell (point (ray V r) s.val 1) := by
  unfold res_main_v60
  pointwise
  rw [← v56_at]

theorem v62_at (r : Fin 16384) (s : Fin 128) : (res_main_v62 V : IVec S16384x128 32) (ix2 r s) = cell (point (ray V r) s.val 2) := by
  unfold res_main_v62
  pointwise
  rw [← v56_at]

/-- Bit `i` of `x`, moved to place `k`. -/
def moved (x i k : BitVec 32) : BitVec 32 := IntOp.shli .host (IntOp.andi (IntOp.shrsi .host x i) 1#32) k

/-- A grid cell's number, its coordinates' bits interleaved one by one: the first five of each. -/
def lowBits (a b c : BitVec 32) : BitVec 32 := IntOp.ori (IntOp.ori (IntOp.ori (IntOp.ori (IntOp.ori (IntOp.ori (IntOp.ori (IntOp.ori (IntOp.ori (IntOp.ori (IntOp.ori (IntOp.ori (IntOp.ori (IntOp.ori (IntOp.ori (0#32) (moved a 0#32 0#32)) (moved b 0#32 1#32)) (moved c 0#32 2#32)) (moved a 1#32 3#32)) (moved b 1#32 4#32)) (moved c 1#32 5#32)) (moved a 2#32 6#32)) (moved b 2#32 7#32)) (moved c 2#32 8#32)) (moved a 3#32 9#32)) (moved b 3#32 10#32)) (moved c 3#32 11#32)) (moved a 4#32 12#32)) (moved b 4#32 13#32)) (moved c 4#32 14#32)

/-- All seven. -/
def interleaved (a b c : BitVec 32) : BitVec 32 := IntOp.ori (IntOp.ori (IntOp.ori (IntOp.ori (IntOp.ori (IntOp.ori (lowBits a b c) (moved a 5#32 15#32)) (moved b 5#32 16#32)) (moved c 5#32 17#32)) (moved a 6#32 18#32)) (moved b 6#32 19#32)) (moved c 6#32 20#32)

/-- The bits of coordinate 0. -/
def bits0 (x : BitVec 32) : BitVec 32 := IntOp.ori (IntOp.ori (IntOp.ori (IntOp.ori (IntOp.ori (IntOp.ori (IntOp.ori (0#32) (moved x 0#32 0#32)) (moved x 1#32 3#32)) (moved x 2#32 6#32)) (moved x 3#32 9#32)) (moved x 4#32 12#32)) (moved x 5#32 15#32)) (moved x 6#32 18#32)

theorem bits0_eq {x : BitVec 32} (h : x.toNat < 128) : bits0 x = nth March.spread0 x.toNat := by
  have key : ∀ k : Fin 128, bits0 (BitVec.ofNat 32 k.val) = Cert.KernelIdeal.lit0 k := by decide +kernel
  have e : BitVec.ofNat 32 x.toNat = x := by simp
  refine (congrArg bits0 e).symm.trans ((key ⟨x.toNat, h⟩).trans ?_)
  obtain ⟨i, hi, hn⟩ := nth_of_lt March.spread0 h
  rw [hn]
  refine congrArg Cert.KernelIdeal.lit0 (Fin.ext ?_)
  exact hi.symm.trans (rowMajor_val1 i).symm

/-- The bits of coordinate 1. -/
def bits1 (x : BitVec 32) : BitVec 32 := IntOp.ori (IntOp.ori (IntOp.ori (IntOp.ori (IntOp.ori (IntOp.ori (IntOp.ori (0#32) (moved x 0#32 1#32)) (moved x 1#32 4#32)) (moved x 2#32 7#32)) (moved x 3#32 10#32)) (moved x 4#32 13#32)) (moved x 5#32 16#32)) (moved x 6#32 19#32)

theorem bits1_eq {x : BitVec 32} (h : x.toNat < 128) : bits1 x = nth March.spread1 x.toNat := by
  have key : ∀ k : Fin 128, bits1 (BitVec.ofNat 32 k.val) = Cert.KernelIdeal.lit1 k := by decide +kernel
  have e : BitVec.ofNat 32 x.toNat = x := by simp
  refine (congrArg bits1 e).symm.trans ((key ⟨x.toNat, h⟩).trans ?_)
  obtain ⟨i, hi, hn⟩ := nth_of_lt March.spread1 h
  rw [hn]
  refine congrArg Cert.KernelIdeal.lit1 (Fin.ext ?_)
  exact hi.symm.trans (rowMajor_val1 i).symm

/-- The bits of coordinate 2. -/
def bits2 (x : BitVec 32) : BitVec 32 := IntOp.ori (IntOp.ori (IntOp.ori (IntOp.ori (IntOp.ori (IntOp.ori (IntOp.ori (0#32) (moved x 0#32 2#32)) (moved x 1#32 5#32)) (moved x 2#32 8#32)) (moved x 3#32 11#32)) (moved x 4#32 14#32)) (moved x 5#32 17#32)) (moved x 6#32 20#32)

theorem bits2_eq {x : BitVec 32} (h : x.toNat < 128) : bits2 x = nth March.spread2 x.toNat := by
  have key : ∀ k : Fin 128, bits2 (BitVec.ofNat 32 k.val) = Cert.KernelIdeal.lit2 k := by decide +kernel
  have e : BitVec.ofNat 32 x.toNat = x := by simp
  refine (congrArg bits2 e).symm.trans ((key ⟨x.toNat, h⟩).trans ?_)
  obtain ⟨i, hi, hn⟩ := nth_of_lt March.spread2 h
  rw [hn]
  refine congrArg Cert.KernelIdeal.lit2 (Fin.ext ?_)
  exact hi.symm.trans (rowMajor_val1 i).symm

theorem interleaved_eq {a b c : BitVec 32} (ha : a.toNat < 128) (hb : b.toNat < 128) (hc : c.toNat < 128) : interleaved a b c = March.cellNo a b c := by
  unfold March.cellNo
  rw [← bits0_eq ha, ← bits1_eq hb, ← bits2_eq hc]
  unfold interleaved lowBits bits0 bits1 bits2 IntOp.ori
  generalize moved a 0#32 0#32 = a0
  generalize moved b 0#32 1#32 = b0
  generalize moved c 0#32 2#32 = c0
  generalize moved a 1#32 3#32 = a1
  generalize moved b 1#32 4#32 = b1
  generalize moved c 1#32 5#32 = c1
  generalize moved a 2#32 6#32 = a2
  generalize moved b 2#32 7#32 = b2
  generalize moved c 2#32 8#32 = c2
  generalize moved a 3#32 9#32 = a3
  generalize moved b 3#32 10#32 = b3
  generalize moved c 3#32 11#32 = c3
  generalize moved a 4#32 12#32 = a4
  generalize moved b 4#32 13#32 = b4
  generalize moved c 4#32 14#32 = c4
  generalize moved a 5#32 15#32 = a5
  generalize moved b 5#32 16#32 = b5
  generalize moved c 5#32 17#32 = c5
  generalize moved a 6#32 18#32 = a6
  generalize moved b 6#32 19#32 = b6
  generalize moved c 6#32 20#32 = c6
  simp only [BitVec.zero_or]
  ac_rfl

theorem v168_at (r : Fin 16384) (s : Fin 128) : (res_main_v168 V : IVec S16384x128 32) (ix2 r s)
    = lowBits (cell (point (ray V r) s.val 0)) (cell (point (ray V r) s.val 1)) (cell (point (ray V r) s.val 2)) := by
  unfold res_main_v168
  pointwise
  rw [v58_at, v60_at, v62_at]
  rfl

theorem v212_at (r : Fin 16384) (s : Fin 128) (h) : (res_main_v212 V : IVec S2097152 32) (ix1 ⟨128 * r.val + s.val, h⟩) = March.code (ray V r) s.val := by
  unfold res_main_v212 March.code
  rw [← interleaved_eq (March.cell_lt _) (March.cell_lt _) (March.cell_lt _)]
  pointwise
  rw [v58_at, v60_at, v62_at, v168_at]
  rfl

end Cert.Proof.Ref
end
-- ==== Proof.BitRead.lean ====
/-
  A bit of the bitmap, read back: it says whether the cell's density passes the threshold.
-/
module

public import proofs.«01_k».proof.Proof.PackTile
public import proofs.«01_k».proof.Proof.MarchVal

@[expose] public section

noncomputable section

namespace Cert.Proof.March

open Cert.KernelIdeal Cert.KernelIdeal.Gen
open Idealize.ShloMosaic

variable {F : FTy → Type} [FloatOps F]

/-- Bit `k` of a packed word: flag `k`, if it is packed already. -/
theorem packW_bit (g : ℕ → BitVec 1) : ∀ n ≤ 32, ∀ k < 32, (packW g n).getLsbD k = (decide (k < n) && (g k).getLsbD 0)
  | 0, _, k, _ => by simp [packW]
  | n + 1, hn, k, hk => by
    have ih := packW_bit g n (by omega) k hk
    have hm : (BitVec.ofNat 32 n).toNat = n := by rw [BitVec.toNat_ofNat]; exact Nat.mod_eq_of_lt (by omega)
    unfold packW IntOp.ori IntOp.shli
    rw [if_pos (by omega), BitVec.getLsbD_or, ih, BitVec.shiftLeft_eq', hm, BitVec.getLsbD_shiftLeft, BitVec.getLsbD_setWidth]
    rcases Nat.lt_trichotomy k n with h | h | h
    · simp [h, Nat.lt_succ_of_lt h]
    · subst h
      simp [hk]
    · have h1 : ¬ k < n := by omega
      have h2 : ¬ k < n + 1 := by omega
      have h3 : (g n).getLsbD (k - n) = false := BitVec.getLsbD_of_ge _ _ (by omega)
      simp [h1, h2, h3]

/-- One bit as a number, compared with zero. -/
theorem flag_back (w : BitVec 32) (k : ℕ) : IntOp.cmpi .ne (IntOp.andi (w >>> k) 1#32) 0#32 = BitVec.ofBool (w.getLsbD k) := by
  have e : IntOp.andi (w >>> k) 1#32 = BitVec.setWidth 32 (BitVec.ofBool (w.getLsbD k)) := by
    unfold IntOp.andi
    apply BitVec.eq_of_getLsbD_eq
    intro i hi
    rw [BitVec.getLsbD_and, BitVec.getLsbD_ushiftRight, BitVec.getLsbD_setWidth, BitVec.getLsbD_ofBool, BitVec.getLsbD_one]
    rcases Nat.eq_zero_or_pos i with rfl | h
    · simp
    · have : i ≠ 0 := by omega
      simp [this]
  rw [e]
  cases w.getLsbD k <;> decide

/-- A flag is its own bit. -/
theorem flag_self (b : BitVec 1) : BitVec.ofBool (b.getLsbD 0) = b := by revert b; decide

/-- The bit of a cell. -/
theorem occupied_bitmap (dens : S2097152.Idx → F .f32) {c : BitVec 32} (hc : c.toNat < 2 ^ 21) : occupied (bitmap dens) c = solid (nth dens c.toNat) := by
  have hk : (IntOp.andi c 31#32).toNat = c.toNat % 32 := by
    unfold IntOp.andi
    rw [BitVec.toNat_and]
    exact Nat.and_two_pow_sub_one_eq_mod _ 5
  unfold occupied IntOp.shrui
  rw [if_pos (by rw [hk]; omega), BitVec.ushiftRight_eq', hk, word_toNat hc, flag_back]
  obtain ⟨i, hi, hn⟩ := nth_of_lt (bitmap dens) (show c.toNat / 32 < 65536 by omega)
  rw [hn]
  unfold bitmap wordFrom
  rw [packW_bit _ 32 (le_refl _) _ (Nat.mod_lt _ (by decide)), hi, Nat.div_add_mod]
  rw [decide_eq_true (Nat.mod_lt _ (by decide)), Bool.true_and]
  exact flag_self _

end Cert.Proof.March
end
-- ==== Proof.RefMark.lean ====
/-
  The reference's marks, read at an index: they are the march's, over the bitmap of the densities.
-/
module

public import proofs.«01_k».proof.Proof.RefRay
public import proofs.«01_k».proof.Proof.BitRead
public import Idealize.ShloMosaic.Lib.ReduceAll
public import Idealize.ShloMosaic.Lib.StableHlo.Predicate

@[expose] public section

noncomputable section

namespace Cert.Proof.Ref

open Cert.ReferenceIdeal Cert.ReferenceIdeal.Gen Cert.ReferenceIdeal.Value Idealize.ShloMosaic Idealize.SL.Sem
open Cert.Proof.March (nth nth_of_lt eq_nth near far time solid bitmap counts)

/-- A number below the number of cells is not negative. -/
theorem toInt_cell {c : BitVec 32} (h : c.toNat < 2 ^ 21) : c.toInt = c.toNat := by
  rw [BitVec.toInt_eq_toNat_cond, if_pos (by omega)]

/-- A cell's number needs no wrapping from the end, -/
theorem start_eq {c : BitVec 32} (h : c.toNat < 2 ^ 21) (x : BitVec 32) : Scalar.select (IntOp.cmpi .slt c 0#32) x c = c := by
  have e : IntOp.cmpi .slt c 0#32 = 0#1 := by
    unfold IntOp.cmpi
    rw [show c.slt 0#32 = false from by
      rw [Bool.eq_false_iff, ne_eq, BitVec.slt_iff_toInt_lt, toInt_cell h]
      simp]
    rfl
  rw [e]; rfl

/-- and lies in the table. -/
theorem inside {c : BitVec 32} (h : c.toNat < 2 ^ 21) : IntOp.andi (IntOp.cmpi .sge c 0#32) (IntOp.cmpi .sle c 2097151#32) = 1#1 := by
  have e1 : IntOp.cmpi .sge c 0#32 = 1#1 := by
    unfold IntOp.cmpi
    rw [show (0#32 : BitVec 32).sle c = true from by
      rw [BitVec.sle_iff_toInt_le, toInt_cell h]
      simp]
    rfl
  have e2 : IntOp.cmpi .sle c 2097151#32 = 1#1 := by
    unfold IntOp.cmpi
    rw [show c.sle 2097151#32 = true from by
      rw [BitVec.sle_iff_toInt_le, toInt_cell h, show (2097151#32 : BitVec 32).toInt = 2097151 by decide]
      omega]
    rfl
  rw [e1, e2]; rfl

variable (V : Valuation τ sig (Elt Ideal))

/-- The densities, as one row. -/
def dens : S2097152.Idx → Ideal .f32 := fun i => shapeCast S2097152 (V (Proc.devRef .tc main_arg2) : FVec Ideal S1x2097152 .f32) shapeCasts_S1x2097152_S2097152 i

/-- The cell at position `p`: step `p % 128` of ray `p / 128`. -/
def cellAt (p : Fin 2097152) : BitVec 32 := March.code (ray V ⟨p.val / 128, by omega⟩) (p.val % 128)

theorem cellAt_lt (p : Fin 2097152) : (cellAt V p).toNat < 2 ^ 21 := March.cellNo_lt _ _ _

theorem v212_row (p : Fin 2097152) : (res_main_v212 V : IVec S2097152 32) (ix1 p) = cellAt V p := by
  have e : p = ⟨128 * (p.val / 128) + p.val % 128, by omega⟩ := Fin.ext (by show p.val = 128 * (p.val / 128) + p.val % 128; omega)
  refine (congrArg (fun q => (res_main_v212 V : IVec S2097152 32) (ix1 q)) e).trans ?_
  exact v212_at V ⟨p.val / 128, by omega⟩ ⟨p.val % 128, Nat.mod_lt _ (by decide)⟩ _

theorem call4_at (p : Fin 2097152) (z : Fin 1) : (res_main_call4_v5 V : IVec S2097152x1 32) (ix2 p z) = cellAt V p := by
  rw [← start_eq (cellAt_lt V p) (IntOp.addi (cellAt V p) 2097152#32), ← v212_row]
  unfold res_main_call4_v5
  pointwise

theorem call4_all (i : S2097152x1.Idx) : (res_main_call4_v5 V : IVec S2097152x1 32) i = cellAt V (i 0) := by
  have e : i = ix2 (i 0) (i 1) := by funext a; match a with | 0 => rfl | 1 => rfl
  exact (congrArg (res_main_call4_v5 V : IVec S2097152x1 32) e).trans (call4_at V _ _)

theorem select_at {s : Shape} {A : Type} (c : IVec s 1) (x y : s.Idx → A) (i : s.Idx) : select c x y i = Scalar.select (c i) (x i) (y i) := rfl

/-- What the reference takes from the densities. -/
def taken : FVec Ideal S2097152 .f32 :=
  select (Host.reduce IntOp.andi (andi (cmpi .sge (res_main_call4_v5 V) (broadcastInDim S2097152x1 ![] bcast_S_S2097152x1 (constantI S_ 32 0#32))) (cmpi .sle (res_main_call4_v5 V) (broadcastInDim S2097152x1 ![0, 1] bcast_S1x1_S2097152x1_0_1 (broadcastInDim S1x1 ![1] bcast_S1_S1x1_1 (constantI S1 32 2097151#32))))) (constantI S_ 1 1#1) reducesTo_S2097152x1_S2097152_d1 h_S_)
    (Host.gather gather_S2097152_S2097152x1_S2097152_n_0_n_n_0_1_1 (shapeCast _ (V (Proc.devRef .tc main_arg2)) shapeCasts_S1x2097152_S2097152) (res_main_call4_v5 V))
    (broadcastInDim S2097152 ![] bcast_S_S2097152 (constant S_ .f32 0x7FC00000#32))

theorem taken_at (p : Fin 2097152) : taken V (ix1 p) = nth (dens V) (cellAt V p).toNat := by
  have e1 : Host.reduce IntOp.andi (andi (cmpi .sge (res_main_call4_v5 V) (broadcastInDim S2097152x1 ![] bcast_S_S2097152x1 (constantI S_ 32 0#32))) (cmpi .sle (res_main_call4_v5 V) (broadcastInDim S2097152x1 ![0, 1] bcast_S1x1_S2097152x1_0_1 (broadcastInDim S1x1 ![1] bcast_S1_S1x1_1 (constantI S1 32 2097151#32))))) (constantI S_ 1 1#1) reducesTo_S2097152x1_S2097152_d1 h_S_ (ix1 p) = 1#1 := by
    refine Host.reduce_andi_one _ _ _ _ _ rfl fun i => ?_
    refine Eq.trans ?_ (inside (cellAt_lt V (i 0)))
    rw [← call4_all]
    rfl
  have e2 : Host.gather gather_S2097152_S2097152x1_S2097152_n_0_n_n_0_1_1 (shapeCast S2097152 (V (Proc.devRef .tc main_arg2) : FVec Ideal S1x2097152 .f32) shapeCasts_S1x2097152_S2097152) (res_main_call4_v5 V) (ix1 p)
      = nth (dens V) (cellAt V p).toNat := by
    have ep : (ix1 p : S2097152.Idx) = Shape.Idx.ofFin p := by funext a; match a with | 0 => rfl
    refine (congrArg _ ep).trans ?_
    refine (StableHlo.Predicate.gather_take _ rfl rfl rfl rfl _ _ p (by decide)).trans ?_
    refine eq_nth (dens V) _ ?_
    show min ((res_main_call4_v5 V : IVec S2097152x1 32) (StableHlo.Predicate.ixP p)).toInt.toNat (2097152 - 1) = _
    rw [call4_all, toInt_cell (cellAt_lt V _)]
    have := cellAt_lt V p
    show min ((cellAt V p).toNat : ℤ).toNat (2097152 - 1) = _
    rw [Int.toNat_natCast]
    omega
  refine Eq.trans ?_ e2
  unfold taken
  exact (select_at _ _ _ _).trans (by rw [e1]; rfl)

/-- Whether a step comes before the end. -/
def early : IVec S16384x128 1 :=
  cmpf .olt (res_main_v34 V) (broadcastInDim S16384x128 ![0, 1] bcast_S16384x1_S16384x128_0_1 (broadcastInDim S16384x1 ![0] bcast_S16384_S16384x1_0 (select (cmpf .ogt (res_main_v17 V) (maximumf (res_main_v15 V) (broadcastInDim S16384 ![] bcast_S_S16384 (constant S_ .f32 0x00000000#32)))) (maximumf (res_main_v17 V) (res_main_v19 V)) (res_main_v19 V))))

theorem early_at (r : Fin 16384) (s : Fin 128) : early V (ix2 r s) = FloatOps.cmpf .olt (time (ray V r) s.val) (far (ray V r)) := by
  unfold far
  rw [← v34_at, ← v15_at, ← v17_at, ← v19_at]
  unfold early
  pointwise

theorem v217_eq : (res_main_v217 V : IVec S16384x128 1) = andi (early V) (cmpf .ogt (shapeCast S16384x128 (taken V) shapeCasts_S2097152_S16384x128) (broadcastInDim S16384x128 ![] bcast_S_S16384x128 (constant S_ .f32 0x3C23D70A#32))) := by
  unfold res_main_v217 early taken
  rfl

theorem cast_at (x : FVec Ideal S2097152 .f32) (r : Fin 16384) (s : Fin 128) : shapeCast S16384x128 x shapeCasts_S2097152_S16384x128 (ix2 r s) = x (ix1 ⟨128 * r.val + s.val, by omega⟩) := by
  simp only [Nat.mul_comm 128]
  pointwise

/-- The marks are the march's. -/
theorem v217_at (r : Fin 16384) (s : Fin 128) : (res_main_v217 V : IVec S16384x128 1) (ix2 r s) = counts (bitmap (dens V)) (ray V r) s.val := by
  unfold counts
  rw [March.occupied_bitmap (dens V) (c := March.code (ray V r) s.val) (March.cellNo_lt _ _ _), ← early_at, v217_eq]
  have e : shapeCast S16384x128 (taken V) shapeCasts_S2097152_S16384x128 (ix2 r s) = nth (dens V) (March.code (ray V r) s.val).toNat := by
    rw [cast_at, taken_at]
    have e1 : (128 * r.val + s.val) / 128 = r.val := by omega
    have e2 : (128 * r.val + s.val) % 128 = s.val := by omega
    unfold cellAt
    simp only [e1, e2]
  show IntOp.andi _ (FloatOps.cmpf .ogt (shapeCast S16384x128 (taken V) shapeCasts_S2097152_S16384x128 (ix2 r s)) _) = _
  rw [e]
  rfl

end Cert.Proof.Ref
end
-- ==== Proof.Algebraic.lean ====
/-
  The kernel and the reference leave the same results.
-/
module

public import proofs.«01_k».proof.Proof.Results
public import proofs.«01_k».proof.Proof.RefMark
public import proofs.«01_k».proof.Defs
public import proofs.«01_k».proof.Proof.Gen.ReferenceIdeal
public import proofs.«01_k».proof.Proof.Gen.ReferenceIdeal.Run

@[expose] public section

noncomputable section

namespace Cert.Proof.Ref

open Cert.ReferenceIdeal Cert.ReferenceIdeal.Gen Cert.ReferenceIdeal.Value Idealize.ShloMosaic Idealize.SL.Sem
open Cert.Proof.March (bitmap counts time point rayOf)

variable (V : Valuation τ sig (Elt Ideal))

/-- The reference's times. -/
def outZ : FVec Ideal S16384x128 .f32 := select (res_main_v217 V) (res_main_v34 V) (broadcastInDim S16384x128 ![] bcast_S_S16384x128 (id (constant S_ .f32 0x00000000#32)))

/-- The reference's points. -/
def outX : FVec Ideal S16384x128x3 .f32 :=
  select (broadcastInDim S16384x128x3 ![0, 1, 2] bcast_S16384x128x1_S16384x128x3_0_1_2 (broadcastInDim S16384x128x1 ![0, 1] bcast_S16384x128_S16384x128x1_0_1 (res_main_v217 V))) (res_main_v45 V) (broadcastInDim S16384x128x3 ![] bcast_S_S16384x128x3 (id (constant S_ .f32 0x00000000#32)))

theorem outZ_at (r : Fin 16384) (s : Fin 128) :
    outZ V (ix2 r s) = Scalar.select (counts (bitmap (dens V)) (ray V r) s.val) (time (ray V r) s.val) (FloatOps.ofBits .f32 0x00000000#32) := by
  rw [← v217_at, ← v34_at]
  rfl

theorem marks_at (c : IVec S16384x128 1) (r : Fin 16384) (s : Fin 128) (j : Fin 3) :
    broadcastInDim S16384x128x3 ![0, 1, 2] bcast_S16384x128x1_S16384x128x3_0_1_2 (broadcastInDim S16384x128x1 ![0, 1] bcast_S16384x128_S16384x128x1_0_1 c) (ix3 r s j) = c (ix2 r s) := by
  pointwise

theorem outX_at (r : Fin 16384) (s : Fin 128) (j : Fin 3) :
    outX V (ix3 r s j) = Scalar.select (counts (bitmap (dens V)) (ray V r) s.val) (point (ray V r) s.val j) (FloatOps.ofBits .f32 0x00000000#32) := by
  rw [← v217_at, ← v45_at, ← marks_at (res_main_v217 V) r s j]
  rfl

variable (d : Dev Cert.KernelIdeal.nD) (m : (ℓ : Loc Cert.KernelIdeal.nD Cert.KernelIdeal.τ Cert.KernelIdeal.sig) → Buf (Elt Ideal) ℓ)

section
variable (h0 : (V (Proc.devRef .tc main_arg0) : FVec Ideal S16384x6 .f32) = (m (March.a0Loc d) : FVec Ideal S16384x6 .f32))
  (h2 : (V (Proc.devRef .tc main_arg2) : FVec Ideal S1x2097152 .f32) = (m (March.a2Loc d) : FVec Ideal S1x2097152 .f32))
include h0

theorem ray_eq (r : Fin 16384) : rayOf (March.rays d m) r.val = ray V r := by
  rw [March.rayOf_rays]
  unfold ray
  rw [h0]

omit h0
include h2

theorem bits_eq : March.bits d m = bitmap (dens V) := by
  unfold March.bits
  congr 1
  unfold dens March.dens
  rw [h2]

include h0

theorem z_at (r : Fin 16384) (s : Fin 128) : March.out_v8 d m (ix2 r s) = outZ V (ix2 r s) := by
  rw [March.out_v8_at, bits_eq V d m h2, ray_eq V d m h0, outZ_at]

theorem mark_at (r : Fin 16384) (s : Fin 128) : March.out_v7 d m (ix2 r s) = (res_main_v217 V : IVec S16384x128 1) (ix2 r s) := by
  rw [March.out_v7_at, bits_eq V d m h2, ray_eq V d m h0, v217_at]

theorem x_at (r : Fin 16384) (s : Fin 128) (j : Fin 3) : March.out_v4 d m (ix3 r s j) = outX V (ix3 r s j) := by
  rw [March.out_v4_at, bits_eq V d m h2, ray_eq V d m h0, outX_at]

theorem z_eq : March.out_v8 d m = outZ V := by
  funext i
  have e : i = ix2 (i 0) (i 1) := by funext a; match a with | 0 => rfl | 1 => rfl
  rw [e]
  exact z_at V d m h0 h2 (i 0) (i 1)

theorem mark_eq : March.out_v7 d m = (res_main_v217 V : IVec S16384x128 1) := by
  funext i
  have e : i = ix2 (i 0) (i 1) := by funext a; match a with | 0 => rfl | 1 => rfl
  rw [e]
  exact mark_at V d m h0 h2 (i 0) (i 1)

theorem x_eq : March.out_v4 d m = outX V := by
  funext i
  have e : i = ix3 (i 0) (i 1) (i 2) := by funext a; match a with | 0 => rfl | 1 => rfl | 2 => rfl
  rw [e]
  exact x_at V d m h0 h2 (i 0) (i 1) (i 2)

end

end Cert.Proof.Ref

namespace Cert.Proof

open Idealize.ShloMosaic Idealize.SL.Sem Idealize.ShloMosaic.StableHlo

/-- The reference's run, its results named. -/
theorem run_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ fun r => ∀ c : Dev Cert.ReferenceIdeal.nD,
      r.2.mem ((c.tc : Thread Cert.ReferenceIdeal.nD Cert.ReferenceIdeal.τ).loc Cert.ReferenceIdeal.main_v220) = Ref.outX (launchContents m c)
      ∧ r.2.mem ((c.tc : Thread Cert.ReferenceIdeal.nD Cert.ReferenceIdeal.τ).loc Cert.ReferenceIdeal.main_v217) = Cert.ReferenceIdeal.Value.res_main_v217 (launchContents m c)
      ∧ r.2.mem ((c.tc : Thread Cert.ReferenceIdeal.nD Cert.ReferenceIdeal.τ).loc Cert.ReferenceIdeal.main_c_84) = constantI Cert.ReferenceIdeal.S_ 32 128#32
      ∧ r.2.mem ((c.tc : Thread Cert.ReferenceIdeal.nD Cert.ReferenceIdeal.τ).loc Cert.ReferenceIdeal.main_v218) = Ref.outZ (launchContents m c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2) := by
  unfold Ref.outX Ref.outZ
  exact Cert.ReferenceIdeal.Value.run (F := Ideal) m g

/-- The results of the kernel are the reference's. -/
theorem algebraic : Cert.algebraic_KernelIdeal_ReferenceIdeal := by
  intro m g m' g' _ hagree
  have hx : ∀ c, March.out_v4 c m = Ref.outX (launchContents m' c) := fun c => Ref.x_eq (launchContents m' c) c m (hagree c).1 (hagree c).2.2
  have hk : ∀ c, March.out_v7 c m = Cert.ReferenceIdeal.Value.res_main_v217 (launchContents m' c) := fun c => Ref.mark_eq (launchContents m' c) c m (hagree c).1 (hagree c).2.2
  have hz : ∀ c, March.out_v8 c m = Ref.outZ (launchContents m' c) := fun c => Ref.z_eq (launchContents m' c) c m (hagree c).1 (hagree c).2.2
  refine ⟨fun c => March.out_v4 c m, fun c => March.out_v7 c m, fun _ => constantI Cert.KernelIdeal.S_ 32 128#32, fun c => March.out_v8 c m, ?_, ?_⟩
  · refine (θ_run (Cert.KernelIdeal.defs (F := Ideal)) (Cert.KernelIdeal.threads (F := Ideal)) _).mono ?_ (March.run_main (F := Ideal) m g)
    intro r h c
    obtain ⟨a0, a1, a2, o4, o7, o3, o8⟩ := h.1 c
    exact ⟨o4, o7, o3, o8, a0, a1, a2⟩
  · refine (θ_run (Cert.ReferenceIdeal.defs (F := Ideal)) _ _).mono ?_ (run_reference m' g')
    intro r h c
    obtain ⟨o0, o1, o2, o3, a0, a1, a2⟩ := h c
    exact ⟨o0.trans (hx c).symm, o1.trans (hk c).symm, o2, o3.trans (hz c).symm, a0, a1, a2⟩

end Cert.Proof
end
-- ==== Proof.lean ====
/- The proof of the claim. -/
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal

@[expose] public section

noncomputable section

namespace Cert.Proof

theorem claim : Cert.Claim := ⟨Cert.Kernel.Gen.facts, Cert.KernelIdeal.Gen.facts, Cert.ReferenceIdeal.Gen.facts,
  frame_bits, frame_ideal, frame_reference, trivial, algebraic⟩

end Cert.Proof

end
